-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x256x7168 : Shape := ⟨3, ![1, 256, 7168]⟩
abbrev S18432x7168 : Shape := ⟨2, ![18432, 7168]⟩
abbrev S18432 : Shape := ⟨1, ![18432]⟩
abbrev S36x56 : Shape := ⟨2, ![36, 56]⟩
abbrev S512x128 : Shape := ⟨2, ![512, 128]⟩
abbrev S_ : Shape := ⟨0, ![]⟩

class Facts : Prop where
  bcast_S_S1x256x7168 : S_.BroadcastsInDim S1x256x7168 (![] : Fin 0 → Fin S1x256x7168.rank)
  reducesTo_S1x256x7168_S_d0_1_2 : S1x256x7168.ReducesTo [0, 1, 2] S_
  h_S_ : 0 < S_.numel

variable [Facts]

def fn {F : FTy → Type} [FloatOps F] (main_arg0 : FVec F S1x256x7168 .bf16) (main_arg1 : FVec F S18432x7168 .fp8e4m3) (main_arg2 : FVec F S18432 .f32) (main_arg3 : FVec F S36x56 .bf16) (main_arg4 : FVec F S512x128 .bf16) : IVec S_ 1 :=
  let main_v0 : FVec F S1x256x7168 .bf16 := Host.absf main_arg0
  let main_cst : FVec F S_ .bf16 := constant S_ .bf16 0x7F7F#16
  let main_v1 : FVec F S1x256x7168 .bf16 := broadcastInDim S1x256x7168 ![] bcast_S_S1x256x7168 main_cst
  let main_v2 : IVec S1x256x7168 1 := cmpf .ole main_v0 main_v1
  let main_c : IVec S_ 1 := constantI S_ 1 1#1
  let main_v3 : IVec S_ 1 := (fun x v => Host.reduce IntOp.andi x v reducesTo_S1x256x7168_S_d0_1_2 h_S_) main_v2 main_c
  main_v3
-- ==== Kernel.lean ====
abbrev S1x256x7168 : Shape := ⟨3, ![1, 256, 7168]⟩
abbrev S18432x7168 : Shape := ⟨2, ![18432, 7168]⟩
abbrev S18432 : Shape := ⟨1, ![18432]⟩
abbrev S36x56 : Shape := ⟨2, ![36, 56]⟩
abbrev S512x128 : Shape := ⟨2, ![512, 128]⟩
abbrev S256x7168 : Shape := ⟨2, ![256, 7168]⟩
abbrev S36x1x512 : Shape := ⟨3, ![36, 1, 512]⟩
abbrev S256x18432 : Shape := ⟨2, ![256, 18432]⟩
abbrev S1x256 : Shape := ⟨2, ![1, 256]⟩
abbrev S1x1x512 : Shape := ⟨3, ![1, 1, 512]⟩
abbrev S256x512 : Shape := ⟨2, ![256, 512]⟩
abbrev S6x512x7168 : Shape := ⟨3, ![6, 512, 7168]⟩
abbrev S36x256x512 : Shape := ⟨3, ![36, 256, 512]⟩
abbrev S288x448 : Shape := ⟨2, ![288, 448]⟩
abbrev S256x128 : Shape := ⟨2, ![256, 128]⟩
abbrev S6 : Shape := ⟨1, ![6]⟩
abbrev S1 : Shape := ⟨1, ![1]⟩
abbrev S_ : Shape := ⟨0, ![]⟩
abbrev S1x512x7168 : Shape := ⟨3, ![1, 512, 7168]⟩
abbrev S512x7168 : Shape := ⟨2, ![512, 7168]⟩
abbrev S288x36 : Shape := ⟨2, ![288, 36]⟩
abbrev S56x448 : Shape := ⟨2, ![56, 448]⟩
abbrev S288x56 : Shape := ⟨2, ![288, 56]⟩
abbrev S32x7168 : Shape := ⟨2, ![32, 7168]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S1792x128 : Shape := ⟨2, ![1792, 128]⟩
abbrev S1792x512 : Shape := ⟨2, ![1792, 512]⟩
abbrev S56x32x512 : Shape := ⟨3, ![56, 32, 512]⟩
abbrev S56x8x512 : Shape := ⟨3, ![56, 8, 512]⟩
abbrev S448x512 : Shape := ⟨2, ![448, 512]⟩
abbrev S288x512 : Shape := ⟨2, ![288, 512]⟩
abbrev S36x8x512 : Shape := ⟨3, ![36, 8, 512]⟩
abbrev S128x256 : Shape := ⟨2, ![128, 256]⟩
abbrev S256x1 : Shape := ⟨2, ![256, 1]⟩
abbrev S1x512 : Shape := ⟨2, ![1, 512]⟩
abbrev S1x256x512 : Shape := ⟨3, ![1, 256, 512]⟩

abbrev nBuf : Space → Nat
  | .hbm => 10
  | .vmem => 13
  | .smem => 0
  | _ => 0

abbrev bufTy : (tb : Table) → Fin (tcTables nBuf tb) → BufTy
  | .hbm, ⟨0, _⟩ => ⟨S1x256x7168, .bf16⟩
  | .hbm, ⟨1, _⟩ => ⟨S18432x7168, .fp8e4m3⟩
  | .hbm, ⟨2, _⟩ => ⟨S18432, .f32⟩
  | .hbm, ⟨3, _⟩ => ⟨S36x56, .bf16⟩
  | .hbm, ⟨4, _⟩ => ⟨S512x128, .bf16⟩
  | .hbm, ⟨5, _⟩ => ⟨S256x7168, .bf16⟩
  | .hbm, ⟨6, _⟩ => ⟨S36x1x512, .f32⟩
  | .hbm, ⟨7, _⟩ => ⟨S256x18432, .bf16⟩
  | .hbm, ⟨8, _⟩ => ⟨S256x7168, .fp8e4m3⟩
  | .hbm, ⟨9, _⟩ => ⟨S1x256, .f32⟩
  | .local _ .vmem, ⟨0, _⟩ => ⟨S256x7168, .bf16⟩
  | .local _ .vmem, ⟨1, _⟩ => ⟨S1x1x512, .f32⟩
  | .local _ .vmem, ⟨2, _⟩ => ⟨S1x1x512, .f32⟩
  | .local _ .vmem, ⟨3, _⟩ => ⟨S36x56, .bf16⟩
  | .local _ .vmem, ⟨4, _⟩ => ⟨S512x128, .bf16⟩
  | .local _ .vmem, ⟨5, _⟩ => ⟨S256x512, .bf16⟩
  | .local _ .vmem, ⟨6, _⟩ => ⟨S256x512, .bf16⟩
  | .local _ .vmem, ⟨7, _⟩ => ⟨S256x7168, .fp8e4m3⟩
  | .local _ .vmem, ⟨8, _⟩ => ⟨S1x256, .f32⟩
  | .local _ .vmem, ⟨9, _⟩ => ⟨S6x512x7168, .fp8e4m3⟩
  | .local _ .vmem, ⟨10, _⟩ => ⟨S36x256x512, .f32⟩
  | .local _ .vmem, ⟨11, _⟩ => ⟨S288x448, .bf16⟩
  | .local _ .vmem, ⟨12, _⟩ => ⟨S256x128, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_21 : BitVec 32 := 0#32
  c0_i32_21
def k0_off1 (c0_i32_19 : BitVec 32) : Fin 1 → Nat :=
  let c6_i32_20 : BitVec 32 := 6#32
  let v35 : BitVec 32 := Scalar.remsi c0_i32_19 c6_i32_20
  ![v35.toNat]
def k0_off2 (c0_i32_19 : BitVec 32) : Fin 3 → Nat :=
  let c6_i32_20 : BitVec 32 := 6#32
  let v35 : BitVec 32 := Scalar.remsi c0_i32_19 c6_i32_20
  let c0_i32_22 : BitVec 32 := 0#32
  let c0_i32_23 : BitVec 32 := 0#32
  ![v35.toNat, 0, 0]
def k0_mult2 : BitVec 32 :=
  let c512_i32_26 : BitVec 32 := 512#32
  c512_i32_26
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
@[reducible] def k0_t1_loop : Scf.Loop 32 :=
  let c0_i32_60 : BitVec 32 := 0#32
  let c8_i32 : BitVec 32 := 8#32
  let v112 : BitVec 32 := Scalar.addi c0_i32_60 c8_i32
  let c1_i32_61 : BitVec 32 := 1#32
  ⟨c0_i32_60, v112, c1_i32_61⟩
def k0_mult7 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  v117
def k0_off3 (k0_t1 : Fin k0_t1_loop.trips) : Fin 2 → Nat :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let v119 : Index := Scalar.indexCast v118
  let c0_67 : Index := 0#32
  ![v119.toNat, 0]
def k0_off4 (k0_t1 : Fin k0_t1_loop.trips) : Fin 2 → Nat :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let v154 : Index := Scalar.indexCast v118
  let c0_77 : Index := 0#32
  ![v154.toNat, 0]
def k0_mult8 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let c0_i32_91 : BitVec 32 := 0#32
  let v243 : BitVec 32 := Scalar.addi v118 c0_i32_91
  v243
def k0_off5 (k0_t1 : Fin k0_t1_loop.trips) (c0_i32_91 : BitVec 32) : Fin 3 → Nat :=
  let c0_92 : Index := 0#32
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let v243 : BitVec 32 := Scalar.addi v118 c0_i32_91
  let v244 : BitVec 32 := v243
  let v245 : Index := Scalar.indexCast v244
  let c0_93 : Index := 0#32
  ![0, v245.toNat, 0]
def k0_mult9 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let c8_i32_98 : BitVec 32 := 8#32
  let v257 : BitVec 32 := Scalar.addi v118 c8_i32_98
  v257
def k0_mult10 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let c16_i32 : BitVec 32 := 16#32
  let v271 : BitVec 32 := Scalar.addi v118 c16_i32
  v271
def k0_mult11 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c32_i32 : BitVec 32 := 32#32
  let v117 : BitVec 32 := Scalar.muli arg14 c32_i32
  let v118 : BitVec 32 := v117
  let c24_i32 : BitVec 32 := 24#32
  let v285 : BitVec 32 := Scalar.addi v118 c24_i32
  v285
def k0_mult12 (i : grid0.Coords) : BitVec 32 :=
  let arg0 : BitVec 32 := BitVec.ofNat 32 (i 0).val
  let c512_i32 : BitVec 32 := 512#32
  let v4 : BitVec 32 := Scalar.muli arg0 c512_i32
  v4
def k0_off6 (i : grid0.Coords) : Fin 1 → Nat :=
  let arg0 : BitVec 32 := BitVec.ofNat 32 (i 0).val
  let c6_i32 : BitVec 32 := 6#32
  let v3 : BitVec 32 := Scalar.remsi arg0 c6_i32
  ![v3.toNat]
def k0_off7 (i : grid0.Coords) : Fin 3 → Nat :=
  let arg0 : BitVec 32 := BitVec.ofNat 32 (i 0).val
  let c6_i32 : BitVec 32 := 6#32
  let v3 : BitVec 32 := Scalar.remsi arg0 c6_i32
  let c0_i32_1 : BitVec 32 := 0#32
  let c0_i32_2 : BitVec 32 := 0#32
  ![v3.toNat, 0, 0]
def k0_off8 (i : grid0.Coords) : Fin 2 → Nat :=
  let arg0 : BitVec 32 := BitVec.ofNat 32 (i 0).val
  let c512_i32 : BitVec 32 := 512#32
  let v4 : BitVec 32 := Scalar.muli arg0 c512_i32
  let v5 : BitVec 32 := v4
  let c0_i32_3 : BitVec 32 := 0#32
  ![v5.toNat, 0]
def k0_off9 (i : grid0.Coords) : Fin 3 → Nat :=
  let arg0 : BitVec 32 := BitVec.ofNat 32 (i 0).val
  let c6_i32_4 : BitVec 32 := 6#32
  let v11 : BitVec 32 := Scalar.remsi arg0 c6_i32_4
  let v14 : Index := Scalar.indexCast v11
  let c0_6 : Index := 0#32
  let c0_7 : Index := 0#32
  ![v14.toNat, 0, 0]
def k0_off10 (i : grid0.Coords) : Fin 3 → Nat :=
  let arg0 : BitVec 32 := BitVec.ofNat 32 (i 0).val
  let v25 : Index := Scalar.indexCast arg0
  let c0_13 : Index := 0#32
  let c0_14 : Index := 0#32
  ![v25.toNat, 0, 0]
def k0_cond2 (i : grid0.Coords) : BitVec 1 :=
  let arg0 : BitVec 32 := BitVec.ofNat 32 (i 0).val
  let c6_i32_17 : BitVec 32 := 6#32
  let v31 : BitVec 32 := Scalar.addi arg0 c6_i32_17
  let c36_i32 : BitVec 32 := 36#32
  let v32 : BitVec 1 := Scalar.cmpi .slt v31 c36_i32
  let v33 : BitVec 32 := Scalar.extui v32
  let c0_i32_18 : BitVec 32 := 0#32
  let v34 : BitVec 1 := Scalar.cmpi .ne v33 c0_i32_18
  v34

def k0_mult13 (i : grid0.Coords) : BitVec 32 :=
  let arg0 : BitVec 32 := BitVec.ofNat 32 (i 0).val
  let c6_i32_19 : BitVec 32 := 6#32
  let v35 : BitVec 32 := Scalar.addi arg0 c6_i32_19
  let c512_i32_21 : BitVec 32 := 512#32
  let v37 : BitVec 32 := Scalar.muli v35 c512_i32_21
  v37
def k0_off11 (i : grid0.Coords) : Fin 1 → Nat :=
  let arg0 : BitVec 32 := BitVec.ofNat 32 (i 0).val
  let c6_i32_19 : BitVec 32 := 6#32
  let v35 : BitVec 32 := Scalar.addi arg0 c6_i32_19
  let c6_i32_20 : BitVec 32 := 6#32
  let v36 : BitVec 32 := Scalar.remsi v35 c6_i32_20
  ![v36.toNat]
def k0_off12 (i : grid0.Coords) : Fin 3 → Nat :=
  let arg0 : BitVec 32 := BitVec.ofNat 32 (i 0).val
  let c6_i32_19 : BitVec 32 := 6#32
  let v35 : BitVec 32 := Scalar.addi arg0 c6_i32_19
  let c6_i32_20 : BitVec 32 := 6#32
  let v36 : BitVec 32 := Scalar.remsi v35 c6_i32_20
  let c0_i32_22 : BitVec 32 := 0#32
  let c0_i32_23 : BitVec 32 := 0#32
  ![v36.toNat, 0, 0]
def k0_off13 (i : grid0.Coords) : Fin 2 → Nat :=
  let arg0 : BitVec 32 := BitVec.ofNat 32 (i 0).val
  let c6_i32_19 : BitVec 32 := 6#32
  let v35 : BitVec 32 := Scalar.addi arg0 c6_i32_19
  let c512_i32_21 : BitVec 32 := 512#32
  let v37 : BitVec 32 := Scalar.muli v35 c512_i32_21
  let v38 : BitVec 32 := v37
  let c0_i32_24 : BitVec 32 := 0#32
  ![v38.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S36x56 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x256x7168 : Shape := ⟨3, ![1, 256, 7168]⟩
abbrev S18432x7168 : Shape := ⟨2, ![18432, 7168]⟩
abbrev S18432 : Shape := ⟨1, ![18432]⟩
abbrev S36x56 : Shape := ⟨2, ![36, 56]⟩
abbrev S512x128 : Shape := ⟨2, ![512, 128]⟩
abbrev S1x256x56x128 : Shape := ⟨4, ![1, 256, 56, 128]⟩
abbrev S1x256x56x512 : Shape := ⟨4, ![1, 256, 56, 512]⟩
abbrev S1x256x512x36 : Shape := ⟨4, ![1, 256, 512, 36]⟩
abbrev S1x256x36x512 : Shape := ⟨4, ![1, 256, 36, 512]⟩
abbrev S256x7168 : Shape := ⟨2, ![256, 7168]⟩
abbrev S1x18432 : Shape := ⟨2, ![1, 18432]⟩
abbrev S256x18432 : Shape := ⟨2, ![256, 18432]⟩
abbrev S1x256 : Shape := ⟨2, ![1, 256]⟩
abbrev S256 : Shape := ⟨1, ![256]⟩
abbrev S256x1 : Shape := ⟨2, ![256, 1]⟩

abbrev nBuf : Space → Nat
  | .hbm => 16
  | .vmem => 7
  | .smem => 0
  | _ => 0

abbrev bufTy : (tb : Table) → Fin (tcTables nBuf tb) → BufTy
  | .hbm, ⟨0, _⟩ => ⟨S1x256x7168, .bf16⟩
  | .hbm, ⟨1, _⟩ => ⟨S18432x7168, .fp8e4m3⟩
  | .hbm, ⟨2, _⟩ => ⟨S18432, .f32⟩
  | .hbm, ⟨3, _⟩ => ⟨S36x56, .bf16⟩
  | .hbm, ⟨4, _⟩ => ⟨S512x128, .bf16⟩
  | .hbm, ⟨5, _⟩ => ⟨S1x256x56x128, .bf16⟩
  | .hbm, ⟨6, _⟩ => ⟨S1x256x56x512, .f32⟩
  | .hbm, ⟨7, _⟩ => ⟨S1x256x56x512, .bf16⟩
  | .hbm, ⟨8, _⟩ => ⟨S1x256x512x36, .f32⟩
  | .hbm, ⟨9, _⟩ => ⟨S1x256x36x512, .f32⟩
  | .hbm, ⟨10, _⟩ => ⟨S256x7168, .bf16⟩
  | .hbm, ⟨11, _⟩ => ⟨S1x18432, .f32⟩
  | .hbm, ⟨12, _⟩ => ⟨S256x18432, .f32⟩
  | .hbm, ⟨13, _⟩ => ⟨S256x18432, .bf16⟩
  | .hbm, ⟨14, _⟩ => ⟨S256x7168, .fp8e4m3⟩
  | .hbm, ⟨15, _⟩ => ⟨S1x256, .f32⟩
  | .local _ .vmem, ⟨0, _⟩ => ⟨S256x7168, .bf16⟩
  | .local _ .vmem, ⟨1, _⟩ => ⟨S18432x7168, .fp8e4m3⟩
  | .local _ .vmem, ⟨2, _⟩ => ⟨S1x18432, .f32⟩
  | .local _ .vmem, ⟨3, _⟩ => ⟨S256x18432, .f32⟩
  | .local _ .vmem, ⟨4, _⟩ => ⟨S256x18432, .bf16⟩
  | .local _ .vmem, ⟨5, _⟩ => ⟨S256x7168, .fp8e4m3⟩
  | .local _ .vmem, ⟨6, _⟩ => ⟨S1x256, .f32⟩
  | _, _ => ⟨S1x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRing.lean ====
/-
  The weight ring of the kernel, and its body at one grid point.

  The weight `w` (18432 x 7168 codes) stays in HBM.  The kernel copies it block by block (36 blocks of 512 rows) into
  the six slots of a VMEM buffer, each slot with its own DMA semaphore: point 0 starts blocks 0 to 5, point `t` waits
  for block `t` in slot `t % 6`, computes with it, and starts block `t + 6` into the slot it has just used, if there
  is such a block.  So six copies are in flight across each boundary between points.

  This module names the blocks, slots and semaphores (`grp`, `rslot`, `csm`), says what is held between two points
  (`ringAt`), and runs the body at a point after the first.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Names: block `b` of the weight, slot `s` of the buffer, slot `s`'s semaphore -/

abbrev wM : Memref sig .tc .hbm S18432x7168 .fp8e4m3 := Memref.whole main_arg1
abbrev bufM : Memref sig .tc .vmem S6x512x7168 .fp8e4m3 := Memref.whole cc0_scratch0
abbrev uM : Memref sig .tc .vmem S36x256x512 .f32 := Memref.whole cc0_scratch1
abbrev ckM : Memref sig .tc .vmem S288x448 .bf16 := Memref.whole cc0_scratch2
abbrev xsbM : Memref sig .tc .vmem S256x128 .f32 := Memref.whole cc0_scratch3

abbrev grpOff (b : Fin 36) : Fin 2 → Nat := ![512 * b.val, 0]
theorem grpOff_inb (b : Fin 36) : ∀ a, grpOff b a + S512x7168.size a ≤ S18432x7168.size a := by
  have := b.isLt; intro a; fin_cases a
  · show 512 * b.val + 512 ≤ 18432; omega
  · show 0 + 7168 ≤ 7168; omega
abbrev slotOff (s : Fin 6) : Fin 3 → Nat := ![s.val, 0, 0]
theorem slotOff_inb (s : Fin 6) : ∀ a, slotOff s a + S1x512x7168.size a ≤ S6x512x7168.size a := by
  have := s.isLt; intro a; fin_cases a
  · show s.val + 1 ≤ 6; omega
  · show 0 + 512 ≤ 512; omega
  · show 0 + 7168 ≤ 7168; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of the weight, as the body slices it. -/
def grp (b : Fin 36) : Memref sig .tc .hbm S512x7168 .fp8e4m3 :=
  wM.slice (Rect.unit (s := S18432x7168) (grpOff b) S512x7168.size (grpOff_inb b)) (fun _ => rfl)
/-- Slot `s` of the buffer, as the body slices and squeezes it. -/
def rslot (s : Fin 6) : Memref sig .tc .vmem S512x7168 .fp8e4m3 :=
  (bufM.slice (Rect.unit (s := S6x512x7168) (slotOff s) S1x512x7168.size (slotOff_inb s)) (fun _ => rfl)).squeeze S512x7168 squeezes_S1x512x7168_S512x7168
/-- Slot `s`'s DMA semaphore. -/
def csm (s : Fin 6) : DmaSems sig S_ := (cc0_scratch4.slice (Rect.unit (s := S6) (semOff s) S1.size (semOff_inb s))).squeeze S_ squeezes_S1_S_

instance (s : Fin 6) : ClosedOff (slotOff s) := ⟨slotOff s, rfl⟩
instance (b : Fin 36) : ClosedOff (grpOff b) := ⟨grpOff b, rfl⟩

/-! ## The offsets the body computes, in closed form -/

theorem rem6 : ∀ t : Fin 36, (Scalar.remsi (BitVec.ofNat 32 t.val) 6#32).toNat = (Ring.sl 6 t.val).val := by decide +kernel
theorem rem6i : ∀ t : Fin 36, (Scalar.indexCast (Scalar.remsi (BitVec.ofNat 32 t.val) 6#32) : Index).toNat = (Ring.sl 6 t.val).val := by decide +kernel
theorem idx36 : ∀ t : Fin 36, (Scalar.indexCast (BitVec.ofNat 32 t.val) : Index).toNat = t.val := by decide +kernel
theorem mul512 : ∀ t : Fin 36, (Scalar.muli (BitVec.ofNat 32 t.val) 512#32).toNat = 512 * (Ring.bk 36 t.val).val := by decide +kernel
theorem rem6n : ∀ t : Fin 36, (Scalar.remsi (Scalar.addi (BitVec.ofNat 32 t.val) 6#32) 6#32).toNat = (Ring.sl 6 t.val).val := by decide +kernel
theorem mul512n : ∀ t : Fin 36, t.val + 6 < 36 → (Scalar.muli (Scalar.addi (BitVec.ofNat 32 t.val) 6#32) 512#32).toNat = 512 * (Ring.bk 36 (t.val + 6)).val := by decide +kernel

section Offs
variable (i : grid0.Coords)
theorem off6_eq : k0_off6 i = semOff (Ring.sl 6 (i 0).val) := congrArg (fun n => (![n] : Fin 1 → Nat)) (rem6 (i 0))
theorem off7_eq : k0_off7 i = slotOff (Ring.sl 6 (i 0).val) := congrArg (fun n => (![n, 0, 0] : Fin 3 → Nat)) (rem6 (i 0))
theorem off8_eq : k0_off8 i = grpOff (Ring.bk 36 (i 0).val) := congrArg (fun n => (![n, 0] : Fin 2 → Nat)) (mul512 (i 0))
theorem off9_eq : k0_off9 i = slotOff (Ring.sl 6 (i 0).val) := congrArg (fun n => (![n, 0, 0] : Fin 3 → Nat)) (rem6i (i 0))
theorem off10_eq : k0_off10 i = ![(i 0).val, 0, 0] := congrArg (fun n => (![n, 0, 0] : Fin 3 → Nat)) (idx36 (i 0))
theorem off11_eq : k0_off11 i = semOff (Ring.sl 6 (i 0).val) := congrArg (fun n => (![n] : Fin 1 → Nat)) (rem6n (i 0))
theorem off12_eq : k0_off12 i = slotOff (Ring.sl 6 (i 0).val) := congrArg (fun n => (![n, 0, 0] : Fin 3 → Nat)) (rem6n (i 0))
theorem off13_eq (h : (i 0).val + 6 < 36) : k0_off13 i = grpOff (Ring.bk 36 ((i 0).val + 6)) := congrArg (fun n => (![n, 0] : Fin 2 → Nat)) (mul512n (i 0) h)

instance : ClosedOff (k0_off7 i) := ⟨slotOff (Ring.sl 6 (i 0).val), off7_eq i⟩
instance : ClosedOff (k0_off9 i) := ⟨slotOff (Ring.sl 6 (i 0).val), off9_eq i⟩
instance : ClosedOff (k0_off10 i) := ⟨![(i 0).val, 0, 0], off10_eq i⟩
end Offs

/-- The first condition holds at point 0 only; the second before the last six points. -/
theorem cond1_iff : ∀ i : grid0.Coords, k0_cond1 i = 1#1 ↔ (i 0).val = 0 := by
  have h : ∀ t : Fin 36, (Scalar.cmpi .ne (Scalar.extui (Scalar.cmpi .eq (BitVec.ofNat 32 t.val) 0#32)) 0#32) = 1#1 ↔ t.val = 0 := by decide +kernel
  exact fun i => h (i 0)
theorem cond2_iff : ∀ i : grid0.Coords, k0_cond2 i = 1#1 ↔ (i 0).val + 6 < 36 := by
  have h : ∀ t : Fin 36, (Scalar.cmpi .ne (Scalar.extui (Scalar.cmpi .slt (Scalar.addi (BitVec.ofNat 32 t.val) 6#32) 36#32)) 0#32) = 1#1 ↔ t.val + 6 < 36 := by decide +kernel
  exact fun i => h (i 0)

/-! ### The body's slices under those names -/

theorem csm_congr {off : Fin 1 → Nat} {s : Fin 6} (e : off = semOff s) (hh) :
    (cc0_scratch4.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (bufM.slice (Rect.unit (s := S6x512x7168) off S1x512x7168.size hh) hs).squeeze S512x7168 squeezes_S1x512x7168_S512x7168 = rslot s :=
  congrArg (fun M : Memref sig .tc .vmem S1x512x7168 .fp8e4m3 => M.squeeze S512x7168 squeezes_S1x512x7168_S512x7168) (Memref.slice_unit_congr _ e _ _ _ _)
theorem grp_congr {off : Fin 2 → Nat} {b : Fin 36} (e : off = grpOff b) (hh hs) :
    wM.slice (Rect.unit (s := S18432x7168) off S512x7168.size hh) hs = grp b :=
  Memref.slice_unit_congr _ e _ _ _ (fun _ => rfl)

section Canon
variable (i : grid0.Coords)
@[sl_canon] theorem semW (hh) : (cc0_scratch4.slice (Rect.unit (s := S6) (k0_off6 i) S1.size hh)).squeeze S_ squeezes_S1_S_ = csm (Ring.sl 6 (i 0).val) := csm_congr (off6_eq i) _
@[sl_canon] theorem semI (hh) : (cc0_scratch4.slice (Rect.unit (s := S6) (k0_off11 i) S1.size hh)).squeeze S_ squeezes_S1_S_ = csm (Ring.sl 6 (i 0).val) := csm_congr (off11_eq i) _
@[sl_canon] theorem slotW (hh hs) : (bufM.slice (Rect.unit (s := S6x512x7168) (k0_off7 i) S1x512x7168.size hh) hs).squeeze S512x7168 squeezes_S1x512x7168_S512x7168 = rslot (Ring.sl 6 (i 0).val) := rslot_congr (off7_eq i) _ _
@[sl_canon] theorem slotI (hh hs) : (bufM.slice (Rect.unit (s := S6x512x7168) (k0_off12 i) S1x512x7168.size hh) hs).squeeze S512x7168 squeezes_S1x512x7168_S512x7168 = rslot (Ring.sl 6 (i 0).val) := rslot_congr (off12_eq i) _ _
@[sl_canon] theorem grpW (hh hs) : wM.slice (Rect.unit (s := S18432x7168) (k0_off8 i) S512x7168.size hh) hs = grp (Ring.bk 36 (i 0).val) := grp_congr (off8_eq i) _ _
@[sl_canon] theorem grpI (h : (i 0).val + 6 < 36) (hh hs) : wM.slice (Rect.unit (s := S18432x7168) (k0_off13 i) S512x7168.size hh) hs = grp (Ring.bk 36 ((i 0).val + 6)) := grp_congr (off13_eq i h) _ _

/-- The first point's six copies. -/
@[sl_canon] theorem semL0 (hh) : (cc0_scratch4.slice (Rect.unit (s := S6) (k0_off1 0#32) S1.size hh)).squeeze S_ squeezes_S1_S_ = csm 0 := csm_congr (by decide +kernel) _
@[sl_canon] theorem semL1 (hh) : (cc0_scratch4.slice (Rect.unit (s := S6) (k0_off1 1#32) S1.size hh)).squeeze S_ squeezes_S1_S_ = csm 1 := csm_congr (by decide +kernel) _
@[sl_canon] theorem semL2 (hh) : (cc0_scratch4.slice (Rect.unit (s := S6) (k0_off1 2#32) S1.size hh)).squeeze S_ squeezes_S1_S_ = csm 2 := csm_congr (by decide +kernel) _
@[sl_canon] theorem semL3 (hh) : (cc0_scratch4.slice (Rect.unit (s := S6) (k0_off1 3#32) S1.size hh)).squeeze S_ squeezes_S1_S_ = csm 3 := csm_congr (by decide +kernel) _
@[sl_canon] theorem semL4 (hh) : (cc0_scratch4.slice (Rect.unit (s := S6) (k0_off1 4#32) S1.size hh)).squeeze S_ squeezes_S1_S_ = csm 4 := csm_congr (by decide +kernel) _
@[sl_canon] theorem semL5 (hh) : (cc0_scratch4.slice (Rect.unit (s := S6) (k0_off1 5#32) S1.size hh)).squeeze S_ squeezes_S1_S_ = csm 5 := csm_congr (by decide +kernel) _
@[sl_canon] theorem slotL0 (hh hs) : (bufM.slice (Rect.unit (s := S6x512x7168) (k0_off2 0#32) S1x512x7168.size hh) hs).squeeze S512x7168 squeezes_S1x512x7168_S512x7168 = rslot 0 := rslot_congr (by decide +kernel) _ _
@[sl_canon] theorem slotL1 (hh hs) : (bufM.slice (Rect.unit (s := S6x512x7168) (k0_off2 1#32) S1x512x7168.size hh) hs).squeeze S512x7168 squeezes_S1x512x7168_S512x7168 = rslot 1 := rslot_congr (by decide +kernel) _ _
@[sl_canon] theorem slotL2 (hh hs) : (bufM.slice (Rect.unit (s := S6x512x7168) (k0_off2 2#32) S1x512x7168.size hh) hs).squeeze S512x7168 squeezes_S1x512x7168_S512x7168 = rslot 2 := rslot_congr (by decide +kernel) _ _
@[sl_canon] theorem slotL3 (hh hs) : (bufM.slice (Rect.unit (s := S6x512x7168) (k0_off2 3#32) S1x512x7168.size hh) hs).squeeze S512x7168 squeezes_S1x512x7168_S512x7168 = rslot 3 := rslot_congr (by decide +kernel) _ _
@[sl_canon] theorem slotL4 (hh hs) : (bufM.slice (Rect.unit (s := S6x512x7168) (k0_off2 4#32) S1x512x7168.size hh) hs).squeeze S512x7168 squeezes_S1x512x7168_S512x7168 = rslot 4 := rslot_congr (by decide +kernel) _ _
@[sl_canon] theorem slotL5 (hh hs) : (bufM.slice (Rect.unit (s := S6x512x7168) (k0_off2 5#32) S1x512x7168.size hh) hs).squeeze S512x7168 squeezes_S1x512x7168_S512x7168 = rslot 5 := rslot_congr (by decide +kernel) _ _
@[sl_canon] theorem grpL0 (hh hs) : wM.slice (Rect.unit (s := S18432x7168) ![0, 0] S512x7168.size hh) hs = grp 0 := grp_congr (by decide +kernel) _ _
@[sl_canon] theorem grpL1 (hh hs) : wM.slice (Rect.unit (s := S18432x7168) ![512, 0] S512x7168.size hh) hs = grp 1 := grp_congr (by decide +kernel) _ _
@[sl_canon] theorem grpL2 (hh hs) : wM.slice (Rect.unit (s := S18432x7168) ![1024, 0] S512x7168.size hh) hs = grp 2 := grp_congr (by decide +kernel) _ _
@[sl_canon] theorem grpL3 (hh hs) : wM.slice (Rect.unit (s := S18432x7168) ![1536, 0] S512x7168.size hh) hs = grp 3 := grp_congr (by decide +kernel) _ _
@[sl_canon] theorem grpL4 (hh hs) : wM.slice (Rect.unit (s := S18432x7168) ![2048, 0] S512x7168.size hh) hs = grp 4 := grp_congr (by decide +kernel) _ _
@[sl_canon] theorem grpL5 (hh hs) : wM.slice (Rect.unit (s := S18432x7168) ![2560, 0] S512x7168.size hh) hs = grp 5 := grp_congr (by decide +kernel) _ _
end Canon

/-! ## What is held: a block at home, a slot, a slot's semaphore, a copy in flight -/

section Pieces
variable (c : Dev nD) (XA : Buf (Elt F) (wM.view.loc (c : Thread nD τ)))

abbrev cellP (s : Fin 6) : sProp 𝕄 := semVal ((c : Thread nD τ), SemLoc.dma (csm s).sem) 0
abbrev slotP (s : Fin 6) (f : Buf (Elt F) ((rslot s).view.loc (c : Thread nD τ))) : sProp 𝕄 :=
  (rslot s).view.loc (c : Thread nD τ) ↦[(rslot s).view.set]{fullShare} f
/-- Block `b` of the weight held on its elements. -/
abbrev homeP (b : Fin 36) : sProp 𝕄 := (grp b).view.loc (c : Thread nD τ) ↦[(grp b).view.set]{fullShare} XA
/-- What the copy of block `b` leaves in slot `s` over prior contents `f`. -/
abbrev landed (s : Fin 6) (b : Fin 36) (f : Buf (Elt F) ((rslot s).view.loc (c : Thread nD τ))) : Buf (Elt F) ((rslot s).view.loc (c : Thread nD τ)) :=
  (rslot s).view.writes (Elt F) f [⟨Rect.whole S512x7168, ReadAs.same.apply ((grp b).view.read (Elt F) XA)⟩]
/-- The units one block's copy moves on its semaphore. -/
abbrev NN : ℕ := 114688
/-- Block `b` in flight into slot `s`, issued over `f`. -/
abbrev flightP (s : Fin 6) (b : Fin 36) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `k % 6` between two points: block `k` in flight into it, or, past the last block, free. -/
def slotN (k : ℕ) : sProp 𝕄 :=
  if k < 36 then iprop(∃ f, flightP c XA (Ring.sl 6 k) (Ring.bk 36 k) f)
  else iprop(cellP c (Ring.sl 6 k) ∗ ∃ f, slotP c (Ring.sl 6 k) f)
theorem slotN_lt {k : ℕ} (h : k < 36) : slotN c XA k = iprop(∃ f, flightP c XA (Ring.sl 6 k) (Ring.bk 36 k) f) := if_pos h
theorem slotN_ge {k : ℕ} (h : ¬ k < 36) : slotN c XA k = iprop(cellP c (Ring.sl 6 k) ∗ ∃ f, slotP c (Ring.sl 6 k) f) := if_neg h

/-- The five slots after the current one. -/
def restS (t : ℕ) : sProp 𝕄 := iprop(slotN c XA (t + 1) ∗ slotN c XA (t + 2) ∗ slotN c XA (t + 3) ∗ slotN c XA (t + 4) ∗ slotN c XA (t + 5))
/-- The ring before point `t`, `1 ≤ t ≤ 36`. -/
def ringAt (t : ℕ) : sProp 𝕄 := iprop(bigSep (Ring.homeSet 6 t) (homeP c XA) ∗ slotN c XA t ∗ restS c XA t)

theorem homes_here (k : ℕ) (hk : k + 6 < 36) :
    bigSep (Ring.homeSet 6 k) (homeP c XA) = iprop(homeP c XA (Ring.bk 36 (k + 6)) ∗ bigSep ((Ring.homeSet 6 k).erase (Ring.bk 36 (k + 6))) (homeP c XA)) := by
  conv_lhs => rw [Ring.homeSet_out 6 k hk, bigSep_insert (Ring.bkL_not_mem_erase 6 k)]
  rfl
theorem homes_next (k : ℕ) (hk : k + 6 < 36) :
    bigSep (Ring.homeSet 6 (k + 1)) (homeP c XA) = iprop(homeP c XA (Ring.bk 36 k) ∗ bigSep ((Ring.homeSet 6 k).erase (Ring.bk 36 (k + 6))) (homeP c XA)) := by
  conv_lhs => rw [Ring.homeSet_succ 6 k hk, bigSep_insert (Ring.bk_not_mem_erase 6 k (by omega) (by decide))]
  rfl
theorem homes_next_tail (k : ℕ) (hk : 36 ≤ k + 6) (h : k < 36) :
    bigSep (Ring.homeSet 6 (k + 1)) (homeP c XA) = iprop(homeP c XA (Ring.bk 36 k) ∗ bigSep (Ring.homeSet 6 k) (homeP c XA)) := by
  conv_lhs => rw [Ring.homeSet_succ_tail 6 k hk h, bigSep_insert (Ring.bk_not_mem_homeSet 6 k h (by decide))]
  rfl

/-- Before a point that starts a copy: the outgoing block apart, this point's copy in flight. -/
theorem ringAt_here (t : ℕ) (h : t + 6 < 36) :
    ringAt c XA t = iprop((homeP c XA (Ring.bk 36 (t + 6)) ∗ bigSep ((Ring.homeSet 6 t).erase (Ring.bk 36 (t + 6))) (homeP c XA))
      ∗ (∃ f, flightP c XA (Ring.sl 6 t) (Ring.bk 36 t) f) ∗ restS c XA t) := by
  unfold ringAt; rw [homes_here c XA t h, slotN_lt c XA (by omega)]
theorem ringAt_next (t : ℕ) (h : t + 6 < 36) :
    iprop((homeP c XA (Ring.bk 36 t) ∗ bigSep ((Ring.homeSet 6 t).erase (Ring.bk 36 (t + 6))) (homeP c XA))
      ∗ (∃ f, flightP c XA (Ring.sl 6 t) (Ring.bk 36 (t + 6)) f) ∗ restS c XA t) ⊢ ringAt c XA (t + 1) := by
  unfold ringAt restS
  rw [homes_next c XA t h, show t + 1 + 5 = t + 6 from rfl, slotN_lt c XA h, Ring.sl_add,
    show t + 1 + 1 = t + 2 from rfl, show t + 1 + 2 = t + 3 from rfl, show t + 1 + 3 = t + 4 from rfl, show t + 1 + 4 = t + 5 from rfl]
  iintro ⟨H, HF, H1, H2, H3, H4, H5⟩
  isplitl [H]; · iexact H
  isplitl [H1]; · iexact H1
  isplitl [H2]; · iexact H2
  isplitl [H3]; · iexact H3
  isplitl [H4]; · iexact H4
  isplitl [H5]; · iexact H5
  iexact HF
theorem ringAt_here_tail (t : ℕ) (h : t < 36) :
    ringAt c XA t = iprop(bigSep (Ring.homeSet 6 t) (homeP c XA)
      ∗ (∃ f, flightP c XA (Ring.sl 6 t) (Ring.bk 36 t) f) ∗ restS c XA t) := by
  unfold ringAt; rw [slotN_lt c XA h]
theorem ringAt_next_tail (t : ℕ) (h : t < 36) (h6 : 36 ≤ t + 6) :
    iprop((homeP c XA (Ring.bk 36 t) ∗ bigSep (Ring.homeSet 6 t) (homeP c XA))
      ∗ (cellP c (Ring.sl 6 t) ∗ ∃ f, slotP c (Ring.sl 6 t) f) ∗ restS c XA t) ⊢ ringAt c XA (t + 1) := by
  unfold ringAt restS
  rw [homes_next_tail c XA t h6 h, show t + 1 + 5 = t + 6 from rfl, slotN_ge c XA (show ¬ t + 6 < 36 by omega), Ring.sl_add,
    show t + 1 + 1 = t + 2 from rfl, show t + 1 + 2 = t + 3 from rfl, show t + 1 + 3 = t + 4 from rfl, show t + 1 + 4 = t + 5 from rfl]
  iintro ⟨H, HF, H1, H2, H3, H4, H5⟩
  isplitl [H]; · iexact H
  isplitl [H1]; · iexact H1
  isplitl [H2]; · iexact H2
  isplitl [H3]; · iexact H3
  isplitl [H4]; · iexact H4
  isplitl [H5]; · iexact H5
  iexact HF

/-- Block `b`'s words as a slot's payload. -/
abbrev payload (b : Fin 36) : S512x7168.Idx → Elt F .fp8e4m3 := ReadAs.same.apply ((grp b).view.read (Elt F) XA)
/-- The copy the body starts, as the run states it: into the slot as the previous copy left it. -/
theorem flightP_after (s : Fin 6) (b b' : Fin 36) (f) :
    flightP c XA s b' ((rslot s).view.writes (Elt F) f [⟨Rect.whole S512x7168, payload c XA b⟩])
      = Transfers.Flight countersEmb (c : Thread nD τ) (SemLoc.dma (csm s).sem) () 114688
          iprop(((rslot s).view.loc (c : Thread nD τ) ↦[(rslot s).view.set]{fullShare}
                  (rslot s).view.writes (Elt F) f [⟨Rect.whole S512x7168, payload c XA b'⟩, ⟨Rect.whole S512x7168, payload c XA b⟩])
                ∗ homeP c XA b') := by
  simp only [flightP, landed, slotP, NN, View.writes]

end Pieces

/-! ## The body at a point after the first -/

section Step

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-- The body on the given staging buffers; the weight, the scratch buffers and the semaphores its own. -/
abbrev bodyG : Prog (TpuEff nD τ sig (Elt F) Λ₀ .tc) PUnit :=
  cc0__body i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4

/-- Ownership of a whole memref at contents `f`. -/
abbrev own {sp s e} (M : Memref sig .tc sp s e) (f : Buf (Elt F) (M.view.loc (c : Thread nD τ))) : sProp 𝕄 :=
  M.view.loc (c : Thread nD τ) ↦[M.view.set]{fullShare} f

abbrev R6 : Rect S256x512 := Rect.unit (s := S256x512) ![0, 0] S256x512.size inb_S256x512_S256x512_0_0
abbrev R7 : Rect S256x7168 := Rect.unit (s := S256x7168) ![0, 0] S256x7168.size inb_S256x7168_S256x7168_0_0

/-- What the body stores at a point: the codes held in `f7`, the block the copy left in the slot, the token scales `f12`,
    the block's weight scales `f3`, the rank-one block of `f10`. -/
abbrev yPay (f3 : Buf (Elt F) (arg3.view.loc (c : Thread nD τ))) (f7 : Buf (Elt F) (arg7.view.loc (c : Thread nD τ)))
    (f10 : Buf (Elt F) (uM.view.loc (c : Thread nD τ))) (f12 : Buf (Elt F) (xsbM.view.loc (c : Thread nD τ))) : S256x512.Idx → Elt F .bf16 :=
  k0_pay54 (arg7.view.readAt (Elt F) (R7).toLoadRect f7)
    (bufM.view.readAt (Elt F) (Rect.unit (s := S6x512x7168) (k0_off9 i) S1x512x7168.size (k0_off9_inb i)).toLoadRect
      (landed c XA (Ring.sl 6 (i 0).val) (Ring.bk 36 (i 0).val) (rslot (Ring.sl 6 (i 0).val)).view.junk))
    (xsbM.view.readAt (Elt F) (Rect.unit (s := S256x128) ![0, 0] S256x1.size inb_S256x128_S256x1_0_0).toLoadRect f12)
    (arg3.view.readAt (Elt F) (Rect.unit (s := S1x1x512) ![0, 0, 0] S1x1x512.size inb_S1x1x512_S1x1x512_0_0_0).toLoadRect f3)
    (uM.view.readAt (Elt F) (Rect.unit (s := S36x256x512) (k0_off10 i) S1x256x512.size (k0_off10_inb i)).toLoadRect f10)

set_option maxRecDepth 16384 in
theorem stepMid (h0 : ¬ (i 0).val = 0) (h6 : (i 0).val + 6 < 36)
    (f3 f6 f7 f10 f12 W) (Q : PUnit → sProp 𝕄) :
    iprop((own c arg3 f3 ∗ own c arg6 f6 ∗ own c arg7 f7 ∗ own c uM f10 ∗ own c xsbM f12 ∗ ringAt c XA (i 0).val ∗ owes (c : Thread nD τ) 0 W)
      ∗ ((own c arg3 f3 ∗ own c arg6 (arg6.view.writes (Elt F) f6 [⟨R6, yPay c XA i arg3 arg7 f3 f7 f10 f12⟩]) ∗ own c arg7 f7 ∗ own c uM f10 ∗ own c xsbM f12
          ∗ ringAt c XA ((i 0).val + 1) ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  have h1 : ¬ k0_cond1 i = 1#1 := fun h => h0 ((cond1_iff i).1 h)
  have h2 : k0_cond2 i = 1#1 := (cond2_iff i).2 h6
  rw [ringAt_here c XA _ h6]
  iintro ⟨⟨H3, H6, H7, H10, H12, ⟨⟨Hg, Hrest⟩, ⟨%f0, HF⟩, HS⟩, HW⟩, Hk⟩
  sl_exec
  sl_step
  iapply Hk
  isplitl [H3]; · iexact H3
  isplitl [H6]; · iexact H6
  isplitl [H7]; · iexact H7
  isplitl [H10]; · iexact H10
  isplitl [H12]; · iexact H12
  isplitr [HW]
  · iapply (ringAt_next c XA _ h6)
    isplitl [HF_src Hrest]
    · isplitl [HF_src]; · iexact HF_src
      iexact Hrest
    isplitl [HF]
    · iexists ((rslot (Ring.sl 6 (i 0).val)).view.writes (Elt F) (rslot (Ring.sl 6 (i 0).val)).view.junk [⟨Rect.whole S512x7168, payload c XA (Ring.bk 36 (i 0).val)⟩])
      irw [flightP_after]
      iexact HF
    iexact HS
  iexists _; iexact HW

set_option maxRecDepth 16384 in
theorem stepTail (h0 : ¬ (i 0).val = 0) (h6 : 36 ≤ (i 0).val + 6)
    (f3 f6 f7 f10 f12 W) (Q : PUnit → sProp 𝕄) :
    iprop((own c arg3 f3 ∗ own c arg6 f6 ∗ own c arg7 f7 ∗ own c uM f10 ∗ own c xsbM f12 ∗ ringAt c XA (i 0).val ∗ owes (c : Thread nD τ) 0 W)
      ∗ ((own c arg3 f3 ∗ own c arg6 (arg6.view.writes (Elt F) f6 [⟨R6, yPay c XA i arg3 arg7 f3 f7 f10 f12⟩]) ∗ own c arg7 f7 ∗ own c uM f10 ∗ own c xsbM f12
          ∗ ringAt c XA ((i 0).val + 1) ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  have h1 : ¬ k0_cond1 i = 1#1 := fun h => h0 ((cond1_iff i).1 h)
  have h2 : ¬ k0_cond2 i = 1#1 := fun h => absurd ((cond2_iff i).1 h) (by omega)
  rw [ringAt_here_tail c XA _ (i 0).isLt]
  iintro ⟨⟨H3, H6, H7, H10, H12, ⟨Hrest, ⟨%f0, HF⟩, HS⟩, HW⟩, Hk⟩
  sl_exec
  sl_step
  iapply Hk
  isplitl [H3]; · iexact H3
  isplitl [H6]; · iexact H6
  isplitl [H7]; · iexact H7
  isplitl [H10]; · iexact H10
  isplitl [H12]; · iexact H12
  isplitr [HW]
  · iapply (ringAt_next_tail c XA _ (i 0).isLt h6)
    isplitl [HF_src Hrest]
    · isplitl [HF_src]; · iexact HF_src
      iexact Hrest
    isplitl [HF HF_dst]
    · isplitl [HF]; · iexact HF
      iexists _; iexact HF_dst
    iexact HS
  iexists _; iexact HW

end Step

end Cert.Proof.Kernel

end
-- ==== Proof.KernelStart.lean ====
/-
  The kernel's body at its first grid point: it starts the first six copies, expands the small factor `C`, runs the
  eight trips that quantise 32 tokens each, writes the token scales out, and then does what every point does.
-/
module

public import proofs.«01_k».proof.Proof.KernelRing

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section First

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-- At the first point the current slot, its semaphore and the current block are numbers 0. -/
theorem csm_first (h : (i 0).val = 0) : csm 0 = csm (Ring.sl 6 (i 0).val) := by rw [h]; rfl
theorem rslot_first (h : (i 0).val = 0) : rslot 0 = rslot (Ring.sl 6 (i 0).val) := by rw [h]; rfl
theorem grp_first (h : (i 0).val = 0) : grp 0 = grp (Ring.bk 36 (i 0).val) := by rw [h]; rfl

abbrev R4 : Rect S36x56 := Rect.unit (s := S36x56) ![0, 0] S36x56.size inb_S36x56_S36x56_0_0
abbrev R8 : Rect S1x256 := Rect.unit (s := S1x256) ![0, 0] S1x256.size inb_S1x256_S1x256_0_0
abbrev R11 : Rect S288x448 := Rect.unit (s := S288x448) ![0, 0] S288x448.size inb_S288x448_S288x448_0_0
abbrev R12 : Rect S256x128 := Rect.unit (s := S256x128) ![0, 0] S256x128.size inb_S256x128_S256x128_0_0

/-- The expanded factor the first point stores. -/
abbrev ckB (f4 : Buf (Elt F) (arg4.view.loc (c : Thread nD τ))) : Buf (Elt F) (ckM.view.loc (c : Thread nD τ)) :=
  ckM.view.writes (Elt F) ckM.view.junk [⟨R11, k0_pay49 (k0_pay47 (arg4.view.readAt (Elt F) R4.toLoadRect f4)) k0_pay48⟩]
/-- The pieces the eight trips write, per buffer. -/
abbrev pbF (h1 : k0_cond1 i = 1#1) (f1 : Buf (Elt F) (arg1.view.loc (c : Thread nD τ))) (f5 : Buf (Elt F) (arg5.view.loc (c : Thread nD τ)))
    (fk : Buf (Elt F) (ckM.view.loc (c : Thread nD τ))) (k : ℕ) :=
  pb_k0_t1 (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk k

theorem rest_first (h : (i 0).val = 0) (g1 g2 g3 g4 g5) :
    iprop(flightP c XA 1 1 g1 ∗ flightP c XA 2 2 g2 ∗ flightP c XA 3 3 g3 ∗ flightP c XA 4 4 g4 ∗ flightP c XA 5 5 g5) ⊢ restS c XA (i 0).val := by
  unfold restS
  rw [h, slotN_lt c XA (by omega), slotN_lt c XA (by omega), slotN_lt c XA (by omega), slotN_lt c XA (by omega), slotN_lt c XA (by omega)]
  iintro ⟨H1, H2, H3, H4, H5⟩
  isplitl [H1]; · iexists g1; iexact H1
  isplitl [H2]; · iexists g2; iexact H2
  isplitl [H3]; · iexists g3; iexact H3
  isplitl [H4]; · iexists g4; iexact H4
  iexists g5; iexact H5

attribute [local sl_canon] csm_first rslot_first grp_first in
set_option maxRecDepth 16384 in
theorem stepZero (h0 : (i 0).val = 0) (h1 : k0_cond1 i = 1#1) (f1 f3 f4 f5 f6 f7 f8 f10 f11 f12 W) (g0 g1 g2 g3 g4 g5)
    (P) (hP : P = pbF c i arg1 harg1 arg3 harg3 arg4 harg4 arg5 harg5 arg6 harg6 arg7 harg7 arg8 harg8 h1 f1 f5 (ckB c arg4 f4) (Scf.trips k0_t1_loop.lb k0_t1_loop.ub k0_t1_loop.st))
    (Q : PUnit → sProp 𝕄) :
    iprop((own c arg1 f1 ∗ own c arg3 f3 ∗ own c arg4 f4 ∗ own c arg5 f5 ∗ own c arg6 f6 ∗ own c arg7 f7 ∗ own c arg8 f8
        ∗ (own c uM f10 ∗ own c ckM f11 ∗ own c xsbM f12)
        ∗ (homeP c XA (Ring.bk 36 (i 0).val) ∗ homeP c XA 1 ∗ homeP c XA 2 ∗ homeP c XA 3 ∗ homeP c XA 4 ∗ homeP c XA 5 ∗ homeP c XA (Ring.bk 36 ((i 0).val + 6)))
        ∗ (slotP c (Ring.sl 6 (i 0).val) g0 ∗ slotP c 1 g1 ∗ slotP c 2 g2 ∗ slotP c 3 g3 ∗ slotP c 4 g4 ∗ slotP c 5 g5)
        ∗ (cellP c (Ring.sl 6 (i 0).val) ∗ cellP c 1 ∗ cellP c 2 ∗ cellP c 3 ∗ cellP c 4 ∗ cellP c 5) ∗ owes (c : Thread nD τ) 0 W)
      ∗ ((own c arg1 f1 ∗ own c arg3 f3 ∗ own c arg4 f4 ∗ own c arg5 f5
          ∗ own c arg6 (arg6.view.writes (Elt F) f6 [⟨R6, yPay c XA i arg3 arg7 f3 (arg7.view.writes (Elt F) f7 P.1) (uM.view.writes (Elt F) f10 P.2.1) (xsbM.view.writes (Elt F) f12 P.2.2)⟩])
          ∗ own c arg7 (arg7.view.writes (Elt F) f7 P.1)
          ∗ own c arg8 (arg8.view.writes (Elt F) f8 [⟨R8, k0_pay53 (xsbM.view.readAt (Elt F) R12.toLoadRect (xsbM.view.writes (Elt F) f12 P.2.2))⟩])
          ∗ (own c uM (uM.view.writes (Elt F) f10 P.2.1) ∗ own c ckM (ckB c arg4 f4) ∗ own c xsbM (xsbM.view.writes (Elt F) f12 P.2.2))
          ∗ homeP c XA (Ring.bk 36 (i 0).val) ∗ (∃ f, flightP c XA (Ring.sl 6 (i 0).val) (Ring.bk 36 ((i 0).val + 6)) f) ∗ restS c XA (i 0).val
          ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  subst hP
  have h2 : k0_cond2 i = 1#1 := (cond2_iff i).2 (by omega)
  have h6 : (i 0).val + 6 < 36 := by omega
  iintro ⟨⟨H1, H3, H4, H5, H6, H7, H8, ⟨H10, H11, H12⟩, ⟨Hh0, Hh1, Hh2, Hh3, Hh4, Hh5, Hh6⟩, ⟨Hs0, Hs1, Hs2, Hs3, Hs4, Hs5⟩, ⟨Hc0, Hc1, Hc2, Hc3, Hc4, Hc5⟩, HW⟩, Hk⟩
  sl_exec
  sl_step
  iapply Hk
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H10 H11 H12]
  · isplitl [H10]; · iexact H10
    isplitl [H11]; · iexact H11
    iexact H12
  isplitl [Hh0]; · iexact Hh0
  isplitl [Hc0]
  · iexists ((rslot (Ring.sl 6 (i 0).val)).view.writes (Elt F) (rslot (Ring.sl 6 (i 0).val)).view.junk [⟨Rect.whole S512x7168, payload c XA (Ring.bk 36 (i 0).val)⟩])
    irw [flightP_after]
    iexact Hc0
  isplitr [HW]
  · iapply (rest_first c XA i h0 g1 g2 g3 g4 g5)
    isplitl [Hc1]; · iexact Hc1
    isplitl [Hc2]; · iexact Hc2
    isplitl [Hc3]; · iexact Hc3
    isplitl [Hc4]; · iexact Hc4
    iexact Hc5
  iexists _; iexact HW

end First

end Cert.Proof.Kernel

end
-- ==== Proof.KernelLoop.lean ====
/-
  What the eight trips of the first point leave in the kernel's buffers, as functions of the tokens: trip `k` quantises
  tokens 32k to 32k+31.  `codesF` are the fp8 codes, `xsbF` the token scales (128 copies per token), `uF` the halved
  rank-one term, each read at an index from the payload of the one trip (and quarter trip) that writes it.
-/
module

public import proofs.«01_k».proof.Proof.KernelStart
public import Idealize.ShloMosaic.Lib.Pointwise.Index
public import Idealize.ShloMosaic.Lib.WritesUnit

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

/-- Trip `k`'s 32 tokens. -/
def xgF (x : S256x7168.Idx → Elt F .bf16) (k : Fin 8) : FVec F S32x7168 .bf16 :=
  fun j => x (ix2 ⟨32 * k.val + (j 0).val, by have := k.isLt; have : (j 0).val < 32 := (j 0).isLt; omega⟩ (j 1))

/-- A trip's codes. -/
def codesPay (xg : FVec F S32x7168 .bf16) : FVec F S32x7168 .fp8e4m3 := k0_pay5 (k0_pay2 xg) (k0_pay4 xg) 0#32

/-- A trip's product of every 128-wide piece of its tokens with `D`. -/
def midF (xg : FVec F S32x7168 .bf16) (d : FVec F S512x128 .bf16) : FVec F S56x32x512 .f32 :=
  (fun v => k0_pay44 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d) (k0_pay1 xg)
/-- A trip's four quarters of the rank-one term. -/
def uPay0 (xg : FVec F S32x7168 .bf16) (d : FVec F S512x128 .bf16) (ck : FVec F S288x448 .bf16) : FVec F S36x8x512 .f32 :=
  (fun v => k0_pay45 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d ck) (k0_pay1 xg)
def uPay1 (xg : FVec F S32x7168 .bf16) (d : FVec F S512x128 .bf16) (ck : FVec F S288x448 .bf16) : FVec F S36x8x512 .f32 :=
  k0_pay50 ((fun v => k0_pay46 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d ck) (k0_pay1 xg))
def uPay2 (xg : FVec F S32x7168 .bf16) (d : FVec F S512x128 .bf16) (ck : FVec F S288x448 .bf16) : FVec F S36x8x512 .f32 :=
  k0_pay51 (midF xg d) ck
def uPay3 (xg : FVec F S32x7168 .bf16) (d : FVec F S512x128 .bf16) (ck : FVec F S288x448 .bf16) : FVec F S36x8x512 .f32 :=
  k0_pay52 (midF xg d) ck
def uPay (r : Fin 4) (xg : FVec F S32x7168 .bf16) (d : FVec F S512x128 .bf16) (ck : FVec F S288x448 .bf16) : FVec F S36x8x512 .f32 :=
  match r with | 0 => uPay0 xg d ck | 1 => uPay1 xg d ck | 2 => uPay2 xg d ck | 3 => uPay3 xg d ck

def row8 (n : Fin 256) : Fin 8 := ⟨n.val / 32, by omega⟩
def row32 (n : Fin 256) : Fin 32 := ⟨n.val % 32, by omega⟩
def row4 (n : Fin 256) : Fin 4 := ⟨n.val % 32 / 8, by omega⟩
def rowS (n : Fin 256) : Fin 8 := ⟨n.val % 8, by omega⟩

/-- The codes of all tokens. -/
def codesF (x : S256x7168.Idx → Elt F .bf16) : S256x7168.Idx → Elt F .fp8e4m3 :=
  fun y => codesPay (xgF x (row8 (y 0))) (ix2 (row32 (y 0)) (y 1))
/-- The scales of all tokens, 128 copies each. -/
def xsbF (x : S256x7168.Idx → Elt F .bf16) : S256x128.Idx → Elt F .f32 :=
  fun y => k0_pay3 (xgF x (row8 (y 0))) (ix2 (row32 (y 0)) (y 1))
/-- The halved rank-one term of all tokens. -/
def uF (x : S256x7168.Idx → Elt F .bf16) (d : FVec F S512x128 .bf16) (ck : FVec F S288x448 .bf16) : S36x256x512.Idx → Elt F .f32 :=
  fun y => uPay (row4 (y 1)) (xgF x (row8 (y 1))) d ck (ix3 (y 0) (rowS (y 1)) (y 2))

section Loop

variable (c : Dev nD) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)
  (h1 : k0_cond1 i = 1#1) (f1 : Buf (Elt F) (arg1.view.loc (c : Thread nD τ))) (f5 : Buf (Elt F) (arg5.view.loc (c : Thread nD τ)))
  (fk : Buf (Elt F) (ckM.view.loc (c : Thread nD τ)))

theorem trips8 : k0_t1_loop.trips = 8 := by decide

/-- One trip's pieces. -/
abbrev tripF (k : Fin k0_t1_loop.trips) :=
  tripL_k0_t1 (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk k

theorem xg_eq (k : Fin k0_t1_loop.trips) :
    arg1.view.readAt (Elt F) (Rect.unit (s := S256x7168) (k0_off3 k) S32x7168.size (k0_off3_inb i k h1)).toLoadRect f1
      = xgF (arg1.view.read (Elt F) f1) ⟨k.val, k.isLt⟩ := by
  funext j
  rw [View.readAt_apply]
  unfold xgF
  congr 1
  funext a
  apply Fin.ext
  have e := k0_off3_eq k
  match a with
  | ⟨0, _⟩ =>
    show k0_off3 k 0 + 1 * (j 0).val = 32 * k.val + (j 0).val
    have e0 : k0_off3 k 0 = 32 * k.val := congrFun e 0
    omega
  | ⟨1, _⟩ =>
    show k0_off3 k 1 + 1 * (j 1).val = (j 1).val
    have e1 : k0_off3 k 1 = 0 := congrFun e 1
    omega

theorem whole5_eq : arg5.view.readAt (Elt F) (Rect.unit (s := S512x128) ![0, 0] S512x128.size inb_S512x128_S512x128_0_0).toLoadRect f5 = arg5.view.read (Elt F) f5 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem whole11_eq : ckM.view.readAt (Elt F) (Rect.unit (s := S288x448) ![0, 0] S288x448.size inb_S288x448_S288x448_0_0).toLoadRect fk = ckM.view.read (Elt F) fk := by
  funext j; rw [View.readAt_apply]; congr 1; funext a; apply Fin.ext
  match a with
  | ⟨0, _⟩ => show 0 + 1 * (j 0).val = (j 0).val; omega
  | ⟨1, _⟩ => show 0 + 1 * (j 1).val = (j 1).val; omega

abbrev TR (k : Fin k0_t1_loop.trips) := tripF c i arg1 harg1 arg3 harg3 arg4 harg4 arg5 harg5 arg6 harg6 arg7 harg7 arg8 harg8 h1 f1 f5 fk k
abbrev xk (k : Fin k0_t1_loop.trips) : FVec F S32x7168 .bf16 := xgF (arg1.view.read (Elt F) f1) ⟨k.val, k.isLt⟩

theorem trip7 (k : Fin k0_t1_loop.trips) :
    (TR c i arg1 harg1 arg3 harg3 arg4 harg4 arg5 harg5 arg6 harg6 arg7 harg7 arg8 harg8 h1 f1 f5 fk k).1
      = [⟨Rect.unit (s := S256x7168) (k0_off3 k) S32x7168.size (k0_off3_inb i k h1), codesPay (xk c arg1 f1 k)⟩] := by
  unfold xk; rw [← xg_eq c i arg1 h1 f1 k]
  unfold TR tripF tripL_k0_t1 trip_k0_t1; rfl
theorem trip12 (k : Fin k0_t1_loop.trips) :
    (TR c i arg1 harg1 arg3 harg3 arg4 harg4 arg5 harg5 arg6 harg6 arg7 harg7 arg8 harg8 h1 f1 f5 fk k).2.2
      = [⟨Rect.unit (s := S256x128) (k0_off4 k) S32x128.size (k0_off4_inb i k h1), k0_pay3 (xk c arg1 f1 k)⟩] := by
  unfold xk; rw [← xg_eq c i arg1 h1 f1 k]
  unfold TR tripF tripL_k0_t1 trip_k0_t1; rfl
theorem trip10 (k : Fin k0_t1_loop.trips) :
    (TR c i arg1 harg1 arg3 harg3 arg4 harg4 arg5 harg5 arg6 harg6 arg7 harg7 arg8 harg8 h1 f1 f5 fk k).2.1
      = [⟨Rect.unit (s := S36x256x512) (k0_off5 k 24#32) S36x8x512.size (k0_off5_inb i k h1 3), uPay3 (xk c arg1 f1 k) (arg5.view.read (Elt F) f5) (ckM.view.read (Elt F) fk)⟩,
         ⟨Rect.unit (s := S36x256x512) (k0_off5 k 16#32) S36x8x512.size (k0_off5_inb i k h1 2), uPay2 (xk c arg1 f1 k) (arg5.view.read (Elt F) f5) (ckM.view.read (Elt F) fk)⟩,
         ⟨Rect.unit (s := S36x256x512) (k0_off5 k 8#32) S36x8x512.size (k0_off5_inb i k h1 1), uPay1 (xk c arg1 f1 k) (arg5.view.read (Elt F) f5) (ckM.view.read (Elt F) fk)⟩,
         ⟨Rect.unit (s := S36x256x512) (k0_off5 k 0#32) S36x8x512.size (k0_off5_inb i k h1 0), uPay0 (xk c arg1 f1 k) (arg5.view.read (Elt F) f5) (ckM.view.read (Elt F) fk)⟩] := by
  unfold xk; rw [← xg_eq c i arg1 h1 f1 k, ← whole5_eq c arg5 f5, ← whole11_eq c fk]
  unfold TR tripF tripL_k0_t1 trip_k0_t1; rfl

/-- The pieces of the trips before `k`. -/
abbrev PB (k : ℕ) := pbF c i arg1 harg1 arg3 harg3 arg4 harg4 arg5 harg5 arg6 harg6 arg7 harg7 arg8 harg8 h1 f1 f5 fk k
theorem PB_zero : PB c i arg1 harg1 arg3 harg3 arg4 harg4 arg5 harg5 arg6 harg6 arg7 harg7 arg8 harg8 h1 f1 f5 fk 0 = ([], [], []) := rfl
theorem PB_succ (k : ℕ) (hk : k < 8) : PB c i arg1 harg1 arg3 harg3 arg4 harg4 arg5 harg5 arg6 harg6 arg7 harg7 arg8 harg8 h1 f1 f5 fk (k + 1)
    = ((TR c i arg1 harg1 arg3 harg3 arg4 harg4 arg5 harg5 arg6 harg6 arg7 harg7 arg8 harg8 h1 f1 f5 fk ⟨k, hk⟩).1 ++ (PB c i arg1 harg1 arg3 harg3 arg4 harg4 arg5 harg5 arg6 harg6 arg7 harg7 arg8 harg8 h1 f1 f5 fk k).1, (TR c i arg1 harg1 arg3 harg3 arg4 harg4 arg5 harg5 arg6 harg6 arg7 harg7 arg8 harg8 h1 f1 f5 fk ⟨k, hk⟩).2.1 ++ (PB c i arg1 harg1 arg3 harg3 arg4 harg4 arg5 harg5 arg6 harg6 arg7 harg7 arg8 harg8 h1 f1 f5 fk k).2.1, (TR c i arg1 harg1 arg3 harg3 arg4 harg4 arg5 harg5 arg6 harg6 arg7 harg7 arg8 harg8 h1 f1 f5 fk ⟨k, hk⟩).2.2 ++ (PB c i arg1 harg1 arg3 harg3 arg4 harg4 arg5 harg5 arg6 harg6 arg7 harg7 arg8 harg8 h1 f1 f5 fk k).2.2) :=
  pb_k0_t1_succ (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk ⟨k, hk⟩

theorem read7 (f7) : ∀ k : ℕ, k ≤ 8 → ∀ (y0 : Fin 256) (y1 : Fin 7168), y0.val < 32 * k →
    arg7.view.read (Elt F) (arg7.view.writes (Elt F) f7 (PB c i arg1 harg1 arg3 harg3 arg4 harg4 arg5 harg5 arg6 harg6 arg7 harg7 arg8 harg8 h1 f1 f5 fk k).1) (ix2 y0 y1) = codesF (arg1.view.read (Elt F) f1) (ix2 y0 y1)
  | 0, _, y0, y1, h => absurd h (by omega)
  | k + 1, hk, y0, y1, h => by
    rw [PB_succ c i arg1 harg1 arg3 harg3 arg4 harg4 arg5 harg5 arg6 harg6 arg7 harg7 arg8 harg8 h1 f1 f5 fk k (by omega)]
    show arg7.view.read (Elt F) (arg7.view.writes (Elt F) f7 ((TR c i arg1 harg1 arg3 harg3 arg4 harg4 arg5 harg5 arg6 harg6 arg7 harg7 arg8 harg8 h1 f1 f5 fk ⟨k, (show k < 8 by omega)⟩).1 ++ (PB c i arg1 harg1 arg3 harg3 arg4 harg4 arg5 harg5 arg6 harg6 arg7 harg7 arg8 harg8 h1 f1 f5 fk k).1)) (ix2 y0 y1) = _
    rw [trip7, List.singleton_append]
    have E : k0_off3 ⟨k, (show k < 8 by omega)⟩ = ![32 * k, 0] := k0_off3_eq _
    by_cases hy : y0.val < 32 * k
    · refine (View.read_writes_cons_unit_of_not_mem arg7.view f7 _ _ _ (ix2 y0 y1) E (0 : Fin 2) (.inl hy)).trans ?_
      exact read7 f7 k (by omega) y0 y1 hy
    · have hr : row8 y0 = ⟨k, by omega⟩ := Fin.ext (by show y0.val / 32 = k; omega)
      refine (View.read_writes_cons_unit_of_mem arg7.view f7 _ _ _ (ix2 y0 y1) (ix2 (row32 y0) y1) E (fun a => by
        match a with
        | ⟨0, _⟩ => show y0.val = 32 * k + y0.val % 32; omega
        | ⟨1, _⟩ => show y1.val = 0 + y1.val; omega)).trans ?_
      unfold codesF
      rw [ix2_0, ix2_1, hr]

theorem read12 (f12) : ∀ k : ℕ, k ≤ 8 → ∀ (y0 : Fin 256) (y1 : Fin 128), y0.val < 32 * k →
    xsbM.view.read (Elt F) (xsbM.view.writes (Elt F) f12 (PB c i arg1 harg1 arg3 harg3 arg4 harg4 arg5 harg5 arg6 harg6 arg7 harg7 arg8 harg8 h1 f1 f5 fk k).2.2) (ix2 y0 y1) = xsbF (arg1.view.read (Elt F) f1) (ix2 y0 y1)
  | 0, _, y0, y1, h => absurd h (by omega)
  | k + 1, hk, y0, y1, h => by
    rw [PB_succ c i arg1 harg1 arg3 harg3 arg4 harg4 arg5 harg5 arg6 harg6 arg7 harg7 arg8 harg8 h1 f1 f5 fk k (by omega)]
    show xsbM.view.read (Elt F) (xsbM.view.writes (Elt F) f12 ((TR c i arg1 harg1 arg3 harg3 arg4 harg4 arg5 harg5 arg6 harg6 arg7 harg7 arg8 harg8 h1 f1 f5 fk ⟨k, (show k < 8 by omega)⟩).2.2 ++ (PB c i arg1 harg1 arg3 harg3 arg4 harg4 arg5 harg5 arg6 harg6 arg7 harg7 arg8 harg8 h1 f1 f5 fk k).2.2)) (ix2 y0 y1) = _
    rw [trip12, List.singleton_append]
    have E : k0_off4 ⟨k, (show k < 8 by omega)⟩ = ![32 * k, 0] := k0_off4_eq _
    by_cases hy : y0.val < 32 * k
    · refine (View.read_writes_cons_unit_of_not_mem xsbM.view f12 _ _ _ (ix2 y0 y1) E (0 : Fin 2) (.inl hy)).trans ?_
      exact read12 f12 k (by omega) y0 y1 hy
    · have hr : row8 y0 = ⟨k, by omega⟩ := Fin.ext (by show y0.val / 32 = k; omega)
      refine (View.read_writes_cons_unit_of_mem xsbM.view f12 _ _ _ (ix2 y0 y1) (ix2 (row32 y0) y1) E (fun a => by
        match a with
        | ⟨0, _⟩ => show y0.val = 32 * k + y0.val % 32; omega
        | ⟨1, _⟩ => show y1.val = 0 + y1.val; omega)).trans ?_
      unfold xsbF
      rw [ix2_0, ix2_1, hr]

/-- Off a quarter's rows, the piece is passed over. -/
theorem skip10 {off : Fin 3 → ℕ} (o : ℕ) (e : off = ![0, o, 0]) (hb) (w) (L) (f10) (y0 : Fin 36) (y1 : Fin 256) (y2 : Fin 512) (h : y1.val < o ∨ o + 8 ≤ y1.val) :
    uM.view.read (Elt F) (uM.view.writes (Elt F) f10 (⟨Rect.unit (s := S36x256x512) off S36x8x512.size hb, w⟩ :: L)) (ix3 y0 y1 y2)
      = uM.view.read (Elt F) (uM.view.writes (Elt F) f10 L) (ix3 y0 y1 y2) :=
  View.read_writes_cons_unit_of_not_mem uM.view f10 _ _ _ _ e (1 : Fin 3) h
/-- On a quarter's rows, its payload is read. -/
theorem hit10 {off : Fin 3 → ℕ} (o : ℕ) (e : off = ![0, o, 0]) (hb) (w) (L) (f10) (y0 : Fin 36) (y1 : Fin 256) (y2 : Fin 512) (x : Fin 8) (h : y1.val = o + x.val) :
    uM.view.read (Elt F) (uM.view.writes (Elt F) f10 (⟨Rect.unit (s := S36x256x512) off S36x8x512.size hb, w⟩ :: L)) (ix3 y0 y1 y2)
      = w (ix3 y0 x y2) :=
  View.read_writes_cons_unit_of_mem uM.view f10 _ _ _ _ (ix3 y0 x y2) e (fun a => by
    match a with
    | ⟨0, _⟩ => show y0.val = 0 + y0.val; omega
    | ⟨1, _⟩ => exact h
    | ⟨2, _⟩ => show y2.val = 0 + y2.val; omega)

theorem read10 (f10) : ∀ k : ℕ, k ≤ 8 → ∀ (y0 : Fin 36) (y1 : Fin 256) (y2 : Fin 512), y1.val < 32 * k →
    uM.view.read (Elt F) (uM.view.writes (Elt F) f10 (PB c i arg1 harg1 arg3 harg3 arg4 harg4 arg5 harg5 arg6 harg6 arg7 harg7 arg8 harg8 h1 f1 f5 fk k).2.1) (ix3 y0 y1 y2)
      = uF (arg1.view.read (Elt F) f1) (arg5.view.read (Elt F) f5) (ckM.view.read (Elt F) fk) (ix3 y0 y1 y2)
  | 0, _, y0, y1, y2, h => absurd h (by omega)
  | k + 1, hk, y0, y1, y2, h => by
    rw [PB_succ c i arg1 harg1 arg3 harg3 arg4 harg4 arg5 harg5 arg6 harg6 arg7 harg7 arg8 harg8 h1 f1 f5 fk k (by omega)]
    show uM.view.read (Elt F) (uM.view.writes (Elt F) f10 ((TR c i arg1 harg1 arg3 harg3 arg4 harg4 arg5 harg5 arg6 harg6 arg7 harg7 arg8 harg8 h1 f1 f5 fk ⟨k, (show k < 8 by omega)⟩).2.1 ++ (PB c i arg1 harg1 arg3 harg3 arg4 harg4 arg5 harg5 arg6 harg6 arg7 harg7 arg8 harg8 h1 f1 f5 fk k).2.1)) (ix3 y0 y1 y2) = _
    rw [trip10]
    show uM.view.read (Elt F) (uM.view.writes (Elt F) f10 (_ :: _ :: _ :: _ :: (PB c i arg1 harg1 arg3 harg3 arg4 harg4 arg5 harg5 arg6 harg6 arg7 harg7 arg8 harg8 h1 f1 f5 fk k).2.1)) (ix3 y0 y1 y2) = _
    have E3 : k0_off5 ⟨k, (show k < 8 by omega)⟩ 24#32 = ![0, 32 * k + 24, 0] := k0_off5_eq _ 3
    have E2 : k0_off5 ⟨k, (show k < 8 by omega)⟩ 16#32 = ![0, 32 * k + 16, 0] := k0_off5_eq _ 2
    have E1 : k0_off5 ⟨k, (show k < 8 by omega)⟩ 8#32 = ![0, 32 * k + 8, 0] := k0_off5_eq _ 1
    have E0 : k0_off5 ⟨k, (show k < 8 by omega)⟩ 0#32 = ![0, 32 * k, 0] := k0_off5_eq _ 0
    by_cases hy : y1.val < 32 * k
    · refine (skip10 _ E3 _ _ _ _ y0 y1 y2 (by omega)).trans ?_
      refine (skip10 _ E2 _ _ _ _ y0 y1 y2 (by omega)).trans ?_
      refine (skip10 _ E1 _ _ _ _ y0 y1 y2 (by omega)).trans ?_
      refine (skip10 _ E0 _ _ _ _ y0 y1 y2 (by omega)).trans ?_
      exact read10 f10 k (by omega) y0 y1 y2 hy
    have hr : row8 y1 = ⟨k, by omega⟩ := Fin.ext (by show y1.val / 32 = k; omega)
    unfold uF
    rw [ix3_0, ix3_1, ix3_2, hr]
    by_cases h3 : 32 * k + 24 ≤ y1.val
    · rw [show row4 y1 = 3 from Fin.ext (by show y1.val % 32 / 8 = 3; omega)]
      exact hit10 _ E3 _ _ _ _ y0 y1 y2 (rowS y1) (by show y1.val = 32 * k + 24 + y1.val % 8; omega)
    refine (skip10 _ E3 _ _ _ _ y0 y1 y2 (by omega)).trans ?_
    by_cases h2 : 32 * k + 16 ≤ y1.val
    · rw [show row4 y1 = 2 from Fin.ext (by show y1.val % 32 / 8 = 2; omega)]
      exact hit10 _ E2 _ _ _ _ y0 y1 y2 (rowS y1) (by show y1.val = 32 * k + 16 + y1.val % 8; omega)
    refine (skip10 _ E2 _ _ _ _ y0 y1 y2 (by omega)).trans ?_
    by_cases h1' : 32 * k + 8 ≤ y1.val
    · rw [show row4 y1 = 1 from Fin.ext (by show y1.val % 32 / 8 = 1; omega)]
      exact hit10 _ E1 _ _ _ _ y0 y1 y2 (rowS y1) (by show y1.val = 32 * k + 8 + y1.val % 8; omega)
    refine (skip10 _ E1 _ _ _ _ y0 y1 y2 (by omega)).trans ?_
    rw [show row4 y1 = 0 from Fin.ext (by show y1.val % 32 / 8 = 0; omega)]
    exact hit10 _ E0 _ _ _ _ y0 y1 y2 (rowS y1) (by show y1.val = 32 * k + y1.val % 8; omega)

/-- After the loop: the codes, the scales, the rank-one term, whatever the buffers held before. -/
theorem after7 (f7) : arg7.view.read (Elt F) (arg7.view.writes (Elt F) f7 (PB c i arg1 harg1 arg3 harg3 arg4 harg4 arg5 harg5 arg6 harg6 arg7 harg7 arg8 harg8 h1 f1 f5 fk (Scf.trips k0_t1_loop.lb k0_t1_loop.ub k0_t1_loop.st)).1)
    = codesF (arg1.view.read (Elt F) f1) := by
  funext y; rw [eq_ix2 y, show Scf.trips k0_t1_loop.lb k0_t1_loop.ub k0_t1_loop.st = 8 from trips8]
  exact read7 c i arg1 harg1 arg3 harg3 arg4 harg4 arg5 harg5 arg6 harg6 arg7 harg7 arg8 harg8 h1 f1 f5 fk f7 8 (by omega) _ _ (y 0).isLt
theorem after12 (f12) : xsbM.view.read (Elt F) (xsbM.view.writes (Elt F) f12 (PB c i arg1 harg1 arg3 harg3 arg4 harg4 arg5 harg5 arg6 harg6 arg7 harg7 arg8 harg8 h1 f1 f5 fk (Scf.trips k0_t1_loop.lb k0_t1_loop.ub k0_t1_loop.st)).2.2)
    = xsbF (arg1.view.read (Elt F) f1) := by
  funext y; rw [eq_ix2 y, show Scf.trips k0_t1_loop.lb k0_t1_loop.ub k0_t1_loop.st = 8 from trips8]
  exact read12 c i arg1 harg1 arg3 harg3 arg4 harg4 arg5 harg5 arg6 harg6 arg7 harg7 arg8 harg8 h1 f1 f5 fk f12 8 (by omega) _ _ (y 0).isLt
theorem after10 (f10) : uM.view.read (Elt F) (uM.view.writes (Elt F) f10 (PB c i arg1 harg1 arg3 harg3 arg4 harg4 arg5 harg5 arg6 harg6 arg7 harg7 arg8 harg8 h1 f1 f5 fk (Scf.trips k0_t1_loop.lb k0_t1_loop.ub k0_t1_loop.st)).2.1)
    = uF (arg1.view.read (Elt F) f1) (arg5.view.read (Elt F) f5) (ckM.view.read (Elt F) fk) := by
  funext y; rw [eq_ix3 y, show Scf.trips k0_t1_loop.lb k0_t1_loop.ub k0_t1_loop.st = 8 from trips8]
  exact read10 c i arg1 harg1 arg3 harg3 arg4 harg4 arg5 harg5 arg6 harg6 arg7 harg7 arg8 harg8 h1 f1 f5 fk f10 8 (by omega) _ _ _ (y 1).isLt

end Loop

end Cert.Proof.Kernel

end
-- ==== Proof.KernelBlock.lean ====
/-
  What the body stores at a point, as a function of the values held: the codes, the point's block of 512 rows of the
  weight, the token scales, the weight scales and the point's block of the rank-one term.
-/
module

public import proofs.«01_k».proof.Proof.KernelLoop

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

/-! ## The values a point reads -/

/-- Rows 512b to 512b+511 of the weight. -/
def wblk (w : S18432x7168.Idx → Elt F .fp8e4m3) (b : Fin 36) : S1x512x7168.Idx → Elt F .fp8e4m3 :=
  fun j => w (ix2 ⟨512 * b.val + (j 1).val, by have := b.isLt; have : (j 1).val < 512 := (j 1).isLt; omega⟩ (j 2))
/-- The first of the 128 copies of each token's scale. -/
def xcol (s : S256x128.Idx → Elt F .f32) : S256x1.Idx → Elt F .f32 :=
  fun j => s (ix2 (j 0) ⟨0, by omega⟩)
/-- Block `b` of the rank-one term. -/
def ublk (u : S36x256x512.Idx → Elt F .f32) (b : Fin 36) : S1x256x512.Idx → Elt F .f32 :=
  fun j => u (ix3 b (j 1) (j 2))
/-- The factor `C` expanded over eight tokens. -/
def ckF (C : S36x56.Idx → Elt F .bf16) : FVec F S288x448 .bf16 := k0_pay49 (k0_pay47 C) k0_pay48
/-- Block `b` of the result. -/
def yF (x : S256x7168.Idx → Elt F .bf16) (w : S18432x7168.Idx → Elt F .fp8e4m3) (ws : S1x1x512.Idx → Elt F .f32)
    (C : S36x56.Idx → Elt F .bf16) (d : S512x128.Idx → Elt F .bf16) (b : Fin 36) : FVec F S256x512 .bf16 :=
  k0_pay54 (codesF x) (wblk w b) (xcol (xsbF x)) ws (ublk (uF x d (ckF C)) b)
/-- The row of token scales. -/
def xsF (x : S256x7168.Idx → Elt F .bf16) : FVec F S1x256 .f32 := k0_pay53 (xsbF x)

section Block

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-! ## The loads -/

/-- Reading the slot's rectangle of the buffer is reading the slot. -/
theorem slot_read (f : bufM.view.ty.Contents (Elt F)) (j : S1x512x7168.Idx) :
    bufM.view.readAt (Elt F) (Rect.unit (s := S6x512x7168) (k0_off9 i) S1x512x7168.size (k0_off9_inb i)).toLoadRect f j
      = (rslot (Ring.sl 6 (i 0).val)).view.read (Elt F) f (ix2 (j 1) (j 2)) := by
  rw [View.readAt_apply]
  show _ = bufM.view.read (Elt F) f ((Rect.unit (s := S6x512x7168) (slotOff (Ring.sl 6 (i 0).val)) S1x512x7168.size (slotOff_inb _)).emb
    (Shape.reshapeEquiv squeezes_S1x512x7168_S512x7168.numel_eq (ix2 (j 1) (j 2))))
  refine congrArg (bufM.view.read (Elt F) f) ?_
  have e3 : (Shape.reshapeEquiv squeezes_S1x512x7168_S512x7168.numel_eq (ix2 (j 1) (j 2)) : S1x512x7168.Idx) = Fin.cons ⟨0, Nat.one_pos⟩ (ix2 (j 1) (j 2)) :=
    Shape.reshapeEquiv_cons_one _ _
  rw [e3]
  have h0 : (j 0).val = 0 := by have : (j 0).val < 1 := (j 0).isLt; omega
  funext a; apply Fin.ext
  match a with
  | ⟨0, _⟩ =>
    have e := congrFun (off9_eq i) 0
    show k0_off9 i 0 + 1 * (j 0).val = (Ring.sl 6 (i 0).val).val + 1 * 0
    rw [e, h0]; rfl
  | ⟨1, _⟩ =>
    have e := congrFun (off9_eq i) 1
    show k0_off9 i 1 + 1 * (j 1).val = 0 + 1 * (j 1).val
    rw [e]; rfl
  | ⟨2, _⟩ =>
    have e := congrFun (off9_eq i) 2
    show k0_off9 i 2 + 1 * (j 2).val = 0 + 1 * (j 2).val
    rw [e]; rfl

/-- A block's words, read at an index of the weight. -/
theorem payload_eq (j : S1x512x7168.Idx) :
    payload c XA (Ring.bk 36 (i 0).val) (ix2 (j 1) (j 2)) = wblk (wM.view.read (Elt F) XA) (i 0) j := by
  have hb : Ring.bk 36 (i 0).val = i 0 := Fin.ext (Nat.mod_eq_of_lt (i 0).isLt)
  show wM.view.read (Elt F) XA ((Rect.unit (s := S18432x7168) (grpOff (Ring.bk 36 (i 0).val)) S512x7168.size (grpOff_inb _)).emb (ix2 (j 1) (j 2))) = _
  unfold wblk
  refine congrArg (wM.view.read (Elt F) XA) ?_
  funext a; apply Fin.ext
  match a with
  | ⟨0, _⟩ => show 512 * (Ring.bk 36 (i 0).val).val + 1 * (j 1).val = 512 * (i 0).val + (j 1).val; rw [hb]; omega
  | ⟨1, _⟩ => show 0 + 1 * (j 2).val = (j 2).val; omega

/-- The slot the point reads holds the point's block. -/
theorem slot_load (g) :
    bufM.view.readAt (Elt F) (Rect.unit (s := S6x512x7168) (k0_off9 i) S1x512x7168.size (k0_off9_inb i)).toLoadRect
      (landed c XA (Ring.sl 6 (i 0).val) (Ring.bk 36 (i 0).val) g)
      = wblk (wM.view.read (Elt F) XA) (i 0) := by
  funext j
  exact (slot_read i _ j).trans ((congrFun (View.read_writes_whole (rslot (Ring.sl 6 (i 0).val)).view g (payload c XA (Ring.bk 36 (i 0).val))) _).trans (payload_eq c XA i j))

theorem load7 (f7) : arg7.view.readAt (Elt F) (R7).toLoadRect f7 = arg7.view.read (Elt F) f7 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load4 (f4) : arg4.view.readAt (Elt F) (R4).toLoadRect f4 = arg4.view.read (Elt F) f4 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load12 (f12) : xsbM.view.readAt (Elt F) (R12).toLoadRect f12 = xsbM.view.read (Elt F) f12 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load3 (f3) : arg3.view.readAt (Elt F) (Rect.unit (s := S1x1x512) ![0, 0, 0] S1x1x512.size inb_S1x1x512_S1x1x512_0_0_0).toLoadRect f3 = arg3.view.read (Elt F) f3 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem load12c (f12) : xsbM.view.readAt (Elt F) (Rect.unit (s := S256x128) ![0, 0] S256x1.size inb_S256x128_S256x1_0_0).toLoadRect f12 = xcol (xsbM.view.read (Elt F) f12) := by
  funext j; rw [View.readAt_apply]; unfold xcol; congr 1; funext a; apply Fin.ext
  match a with
  | ⟨0, _⟩ => show 0 + 1 * (j 0).val = (j 0).val; omega
  | ⟨1, _⟩ => show 0 + 1 * (j 1).val = 0; have : (j 1).val < 1 := (j 1).isLt; omega
theorem load10 (f10) : uM.view.readAt (Elt F) (Rect.unit (s := S36x256x512) (k0_off10 i) S1x256x512.size (k0_off10_inb i)).toLoadRect f10 = ublk (uM.view.read (Elt F) f10) (i 0) := by
  funext j; rw [View.readAt_apply]; unfold ublk; congr 1; funext a; apply Fin.ext
  match a with
  | ⟨0, _⟩ =>
    have e : k0_off10 i 0 = (i 0).val := congrFun (off10_eq i) 0
    show k0_off10 i 0 + 1 * (j 0).val = (i 0).val
    have : (j 0).val < 1 := (j 0).isLt; omega
  | ⟨1, _⟩ =>
    have e : k0_off10 i 1 = 0 := congrFun (off10_eq i) 1
    show k0_off10 i 1 + 1 * (j 1).val = (j 1).val; omega
  | ⟨2, _⟩ =>
    have e : k0_off10 i 2 = 0 := congrFun (off10_eq i) 2
    show k0_off10 i 2 + 1 * (j 2).val = (j 2).val; omega

/-- What the point stores, from the values it holds. -/
theorem yPay_eq (f3 f7 f10 f12) (CO : S256x7168.Idx → Elt F .fp8e4m3) (U : S36x256x512.Idx → Elt F .f32) (S : S256x128.Idx → Elt F .f32)
    (h7 : arg7.view.read (Elt F) f7 = CO) (h10 : uM.view.read (Elt F) f10 = U) (h12 : xsbM.view.read (Elt F) f12 = S) :
    yPay c XA i arg3 arg7 f3 f7 f10 f12
      = k0_pay54 CO (wblk (wM.view.read (Elt F) XA) (i 0)) (xcol S) (arg3.view.read (Elt F) f3) (ublk U (i 0)) := by
  subst h7 h10 h12
  unfold yPay
  rw [slot_load c XA i _, load7, load12c, load3, load10]

/-! ## The stores -/

theorem store6 (f6) (v : S256x512.Idx → Elt F .bf16) : arg6.view.read (Elt F) (arg6.view.writes (Elt F) f6 [⟨R6, v⟩]) = v := by
  funext y
  exact View.read_writes_cons_unit_of_mem arg6.view f6 _ v [] y y (off' := ![0, 0]) rfl (fun a => by
    match a with
    | ⟨0, _⟩ => show (y 0).val = 0 + (y 0).val; omega
    | ⟨1, _⟩ => show (y 1).val = 0 + (y 1).val; omega)
theorem store8 (f8) (v : S1x256.Idx → Elt F .f32) : arg8.view.read (Elt F) (arg8.view.writes (Elt F) f8 [⟨R8, v⟩]) = v := by
  funext y
  exact View.read_writes_cons_unit_of_mem arg8.view f8 _ v [] y y (off' := ![0, 0]) rfl (fun a => by
    match a with
    | ⟨0, _⟩ => show (y 0).val = 0 + (y 0).val; omega
    | ⟨1, _⟩ => show (y 1).val = 0 + (y 1).val; omega)
theorem store11 (f11) (v : S288x448.Idx → Elt F .bf16) : ckM.view.read (Elt F) (ckM.view.writes (Elt F) f11 [⟨R11, v⟩]) = v := by
  funext y
  exact View.read_writes_cons_unit_of_mem ckM.view f11 _ v [] y y (off' := ![0, 0]) rfl (fun a => by
    match a with
    | ⟨0, _⟩ => show (y 0).val = 0 + (y 0).val; omega
    | ⟨1, _⟩ => show (y 1).val = 0 + (y 1).val; omega)

theorem ckB_read (f4) : ckM.view.read (Elt F) (ckB c arg4 f4) = ckF (arg4.view.read (Elt F) f4) := by
  unfold ckB ckF; rw [store11, load4]

end Block

end Cert.Proof.Kernel

end
-- ==== Proof.KernelRun.lean ====
/-
  The kernel's run: what is held between two points, the body at every point, and the launch.

  Between points the weight ring (`ringAt`) is held, and, after the first point, the rank-one term and the token scales
  that the first point left in scratch.  Every point stores its block of the result; the codes and the row of scales
  stay in their windows' buffers from the first point and are written back after the last.
-/
module

public import proofs.«01_k».proof.Proof.KernelBlock
public import proofs.«01_k».proof.Proof.Gen.Kernel.Frame
public import Idealize.ShloMosaic.Lib.Pipeline.TableIdle

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

set_option maxRecDepth 16384

/-! ## The kernel's own semaphores: the six slots' cells -/

abbrev osem : Fin 6 → SemLoc sig := fun s => .dma (csm s).sem
theorem ownSemFacts : Pipeline.OwnSemFacts spec0 osem := by decide

/-! ## Element sets: the weight's 36 blocks, the buffer's six slots -/

abbrev G36 (b : Fin 36) : Finset S18432x7168.Idx := (Rect.unit (s := S18432x7168) (grpOff b) S512x7168.size (grpOff_inb b)).set
abbrev S6s (s : Fin 6) : Finset S6x512x7168.Idx := (Rect.unit (s := S6x512x7168) (slotOff s) S1x512x7168.size (slotOff_inb s)).set

theorem grp_set (b : Fin 36) : (grp b : Memref sig .tc .hbm _ _).view.set = G36 b := View.set_slice_whole _ _
theorem rslot_set (s : Fin 6) : (rslot s : Memref sig .tc .vmem _ _).view.set = S6s s := (View.set_reshape _ _).trans (View.set_slice_whole _ _)

theorem mem_G36 (b : Fin 36) (y : S18432x7168.Idx) : y ∈ G36 b ↔ (y 0).val / 512 = b.val := by
  rw [Rect.mem_set_unit]
  have h0 : (y 0).val < 18432 := (y 0).isLt
  have h1 : (y 1).val < 7168 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 7168; omega
theorem mem_S6s (s : Fin 6) (y : S6x512x7168.Idx) : y ∈ S6s s ↔ (y 0).val = s.val := by
  rw [Rect.mem_set_unit]
  have h1 : (y 1).val < 512 := (y 1).isLt
  have h2 : (y 2).val < 7168 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 7168; omega
theorem G36_disjoint : ∀ b b' : Fin 36, b ≠ b' → Disjoint (G36 b) (G36 b') := by
  intro b b' hne; rw [Finset.disjoint_left]; intro y hy hy'; rw [mem_G36] at hy hy'; exact hne (Fin.ext (hy.symm.trans hy'))
theorem G36_cover : (Finset.univ : Finset (Fin 36)).biUnion G36 = Finset.univ := by
  ext y; simp only [Finset.mem_biUnion, Finset.mem_univ, true_and, iff_true]
  have h0 : (y 0).val < 18432 := (y 0).isLt
  exact ⟨⟨(y 0).val / 512, by omega⟩, by rw [mem_G36]⟩
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]
  have h0 : (y 0).val < 6 := (y 0).isLt
  exact ⟨⟨(y 0).val, h0⟩, by rw [mem_S6s]⟩

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

variable (m : (ℓ : Loc nD τ sig) → Buf (Elt F) ℓ) (ρ : Dev nD → PrngReg)

/-- The weight as the region finds it. -/
abbrev XW (c : Dev nD) : Buf (Elt F) (wM.view.loc (c : Thread nD τ)) := V m c main_arg1

/-- The weight whole is its blocks home; -/
theorem w_eq (c : Dev nD) :
    (((c : Thread nD τ).loc main_arg1) ↦{fullShare} V m c main_arg1 : sProp 𝕄) = bigSep Finset.univ (homeP c (XW m c)) := by
  rw [Ring.pointsTo_blocks (ℓ := (c : Thread nD τ).loc main_arg1) G36 G36_disjoint G36_cover]
  exact bigSep_congr fun b _ => by rw [← grp_set]; rfl
/-- at the body's entry, blocks 0 to 5 apart from the rest; -/
theorem homes_zero (c : Dev nD) (XA : Buf (Elt F) (wM.view.loc (c : Thread nD τ))) :
    bigSep Finset.univ (homeP c XA) = iprop(homeP c XA 0 ∗ homeP c XA 1 ∗ homeP c XA 2 ∗ homeP c XA 3 ∗ homeP c XA 4 ∗ homeP c XA 5 ∗ bigSep (Ring.homeSet 6 0) (homeP c XA)) := by
  have e : (Finset.univ : Finset (Fin 36)) = insert 0 (insert 1 (insert 2 (insert 3 (insert 4 (insert 5 (Ring.homeSet (NB := 36) 6 0)))))) := by
    ext b; simp only [Finset.mem_univ, Finset.mem_insert, Ring.mem_homeSet, true_iff, Fin.ext_iff]
    show b.val = 0 ∨ b.val = 1 ∨ b.val = 2 ∨ b.val = 3 ∨ b.val = 4 ∨ b.val = 5 ∨ _
    have := b.isLt; omega
  rw [e, bigSep_insert (by decide), bigSep_insert (by decide), bigSep_insert (by decide), bigSep_insert (by decide), bigSep_insert (by decide), bigSep_insert (by decide)]; rfl
/-- after the last point all blocks are home. -/
theorem homes_last (c : Dev nD) (XA : Buf (Elt F) (wM.view.loc (c : Thread nD τ))) :
    bigSep (Ring.homeSet 6 36) (homeP c XA) = bigSep Finset.univ (homeP c XA) := by
  have e : (Ring.homeSet (NB := 36) 6 36) = Finset.univ := by
    ext b; simp only [Finset.mem_univ, Ring.mem_homeSet, iff_true]; have := b.isLt; omega
  rw [e]

theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The slots at some contents each. -/
abbrev slots6 (c : Dev nD) : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ ∃ f, slotP (F := F) c 5 f)
/-- The cells at zero. -/
abbrev cells6 (c : Dev nD) : sProp 𝕄 :=
  iprop(cellP (F := F) c 0 ∗ cellP (F := F) c 1 ∗ cellP (F := F) c 2 ∗ cellP (F := F) c 3 ∗ cellP (F := F) c 4 ∗ cellP (F := F) c 5)
/-- The buffer whole is its slots, and back. -/
theorem buf_split (c : Dev nD) :
    iprop(∃ f : Buf (Elt F) ((c : Thread nD τ).loc cc0_scratch0), ((c : Thread nD τ).loc cc0_scratch0) ↦{fullShare} f)
      ⊢ (slots6 c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  isplitl [H3]
  · iexists f; iapply (entails_of_eq (slotP_eq c 3 f).symm); iexact H3
  isplitl [H4]
  · iexists f; iapply (entails_of_eq (slotP_eq c 4 f).symm); iexact H4
  · iexists f; iapply (entails_of_eq (slotP_eq c 5 f).symm); iexact H5
theorem buf_join (c : Dev nD) :
    (slots6 c : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  isplitl [H3]
  · iexists f3; iapply (entails_of_eq (slotP_eq c 3 f3)); iexact H3
  isplitl [H4]
  · iexists f4; iapply (entails_of_eq (slotP_eq c 4 f4)); iexact H4
  · iexists f5; iapply (entails_of_eq (slotP_eq c 5 f5)); iexact H5

/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = cells6 c := by
  unfold Pipeline.ownSems0; rw [bigSep_fin6]

/-- A scratch buffer whole, as the body owns it. -/
theorem own_whole (c : Dev nD) (b : Ref sig .tc) (f : Buf (Elt F) ((c : Thread nD τ).loc b)) :
    (((c : Thread nD τ).loc b) ↦{fullShare} f : sProp 𝕄) = own c (Memref.whole b) f := by
  show _ = (((c : Thread nD τ).loc b) ↦[(Memref.whole b).view.set]{fullShare} f : sProp 𝕄)
  rw [show (Memref.whole b).view.set = Finset.univ from View.set_whole _]

end Cert.Proof.Kernel

end
-- ==== Proof.KernelLaunch.lean ====
/-
  The launch of the kernel: the region's proof data, the body at every point against it, the run of the whole program.
-/
module

public import proofs.«01_k».proof.Proof.KernelRun

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

set_option maxRecDepth 16384

variable (m : (ℓ : Loc nD τ sig) → Buf (Elt F) ℓ) (ρ : Dev nD → PrngReg)

/-! ## The values -/

theorem N36 : cfg0.N = 36 := N_0
theorem lt36 (t : Fin cfg0.N) : t.val < 36 := lt_of_lt_of_eq t.isLt N36
/-- The first point. -/
abbrev t0 : Fin cfg0.N := ⟨0, by rw [N36]; omega⟩
theorem coord (t : Fin cfg0.N) : (grid0.coords t 0).val = t.val := by
  have h : ∀ t : Fin grid0.N, (grid0.coords t 0).val = t.val := by decide +kernel
  exact h t

/-- The tokens, the weight, and the two factors, as the region finds them. -/
def Xv (c : Dev nD) : S256x7168.Idx → Elt F .bf16 := iblk m c 0 t0
def Wv (c : Dev nD) : S18432x7168.Idx → Elt F .fp8e4m3 := wM.view.read (Elt F) (XW m c)
def Cv (c : Dev nD) : S36x56.Idx → Elt F .bf16 := iblk m c 2 t0
def Dv (c : Dev nD) : S512x128.Idx → Elt F .bf16 := iblk m c 3 t0
/-- Point `t`'s weight scales. -/
def Sv (c : Dev nD) (t : Fin cfg0.N) : S1x1x512.Idx → Elt F .f32 := iblk m c 1 t
/-- Point `t`'s block of the result. -/
def Yv (c : Dev nD) (t : Fin cfg0.N) : S256x512.Idx → Elt F .bf16 := yF (Xv m c) (Wv m c) (Sv m c t) (Cv m c) (Dv m c) (grid0.coords t 0)
def COv (c : Dev nD) : S256x7168.Idx → Elt F .fp8e4m3 := codesF (Xv m c)
def XSv (c : Dev nD) : S1x256.Idx → Elt F .f32 := xsF (Xv m c)
/-- What the first point leaves in scratch. -/
def Uv (c : Dev nD) : S36x256x512.Idx → Elt F .f32 := uF (Xv m c) (Dv m c) (ckF (Cv m c))
def XBv (c : Dev nD) : S256x128.Idx → Elt F .f32 := xsbF (Xv m c)

/-! ## The pipeline's proof data -/

/-- Held before the first point: everything free, all blocks home. -/
def Φ0 (c : Dev nD) : sProp 𝕄 :=
  iprop(bigSep Finset.univ (homeP c (XW m c)) ∗ slots6 c ∗ cells6 c ∗ (∃ f, own c uM f) ∗ (∃ f, own c ckM f) ∗ ∃ f, own c xsbM f)
/-- Held before point `n`, `1 ≤ n ≤ 36`. -/
def Φ1 (c : Dev nD) (n : ℕ) : sProp 𝕄 :=
  iprop(ringAt c (XW m c) n ∗ (∃ f, ⌜uM.view.read (Elt F) f = Uv m c⌝ ∗ own c uM f) ∗ (∃ f, own c ckM f) ∗ ∃ f, ⌜xsbM.view.read (Elt F) f = XBv m c⌝ ∗ own c xsbM f)
def Φ (c : Dev nD) (n : ℕ) : sProp 𝕄 := if n = 0 then Φ0 m c else Φ1 m c n
theorem Φ_zero (c : Dev nD) {n : ℕ} (h : n = 0) : Φ m c n = Φ0 m c := if_pos h
theorem Φ_pos (c : Dev nD) {n : ℕ} (h : n ≠ 0) : Φ m c n = Φ1 m c n := if_neg h

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Yv m c t
    | ⟨5, _⟩ => COv m c
    | ⟨6, _⟩ => XSv m c
  Φ t := Φ m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; dsimp only [dats]; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; dsimp only [dats]; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by unfold Dat.blockOf; dsimp only [dats]; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by unfold Dat.blockOf; dsimp only [dats]; rfl) t d).trans
    (by unfold Dat.fetched Dat.blockOf iblk; dsimp only [dats]; rfl)
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = Yv m c t := by dsimp only [dats]
theorem after_w5 (c : Dev nD) (t : Fin cfg0.N) : (dats m 0 c).after 5 t = COv m c := by dsimp only [dats]
theorem after_w6 (c : Dev nD) (t : Fin cfg0.N) : (dats m 0 c).after 6 t = XSv m c := by dsimp only [dats]

/-! ## The windows written at the first point only -/

/-- The buffer is unwritten before the first point only (and after the write-back at the end). -/
abbrev tb (n : ℕ) : Bool := n == 0 || n == 36
theorem idle5 (t : Fin cfg0.N) : cfg0.idle 5 (cfg0.grid.coords t) = !(t.val == 0) := by
  have h : ∀ t : Fin grid0.N, (!(k0_cond1 (grid0.coords t) == 1#1)) = !(t.val == 0) := by decide +kernel
  exact h t
theorem idle6 (t : Fin cfg0.N) : cfg0.idle 6 (cfg0.grid.coords t) = !(t.val == 0) := idle5 t
theorem flush5 (t : Fin cfg0.N) : (cfg0.win 5).flush t = (t.val == 35) := by
  have h := flush0_5 t
  have ht := lt36 t
  rw [Bool.eq_iff_iff, h, beq_iff_eq]; omega
theorem flush6 (t : Fin cfg0.N) : (cfg0.win 6).flush t = (t.val == 35) := by
  have h := flush0_6 t
  have ht := lt36 t
  rw [Bool.eq_iff_iff, h, beq_iff_eq]; omega
theorem tb_step (n : ℕ) (h : n < 36) : tb (n + 1) = ((n == 35) || (!(n == 0) && tb n)) := by
  have h : ∀ n : Fin 36, tb (n.val + 1) = ((n.val == 35) || (!(n.val == 0) && tb n.val)) := by decide
  exact h ⟨n, by assumption⟩
theorem fresh5 (t : Fin cfg0.N) : cfg0.fresh 5 t.val = tb t.val :=
  cfg0.fresh_tab 5 tb rfl (fun t => by
    have ht := lt36 t
    rw [flush5, idle5]; exact tb_step t.val ht) t.val (Nat.le_of_lt t.isLt)
theorem fresh6 (t : Fin cfg0.N) : cfg0.fresh 6 t.val = tb t.val :=
  cfg0.fresh_tab 6 tb rfl (fun t => by
    have ht := lt36 t
    rw [flush6, idle6]; exact tb_step t.val ht) t.val (Nat.le_of_lt t.isLt)

theorem before_w5 (c : Dev nD) (t : Fin cfg0.N) (d) : (dats m 0 c).before 5 t d = if tb t.val then d else COv m c := by
  rw [(dats m 0 c).before_out_traj 5 rfl (fun _ _ => rfl) (fun t ht _ _ => by rw [after_w5, after_w5]) t.val t rfl d, fresh5, after_w5]
theorem before_w6 (c : Dev nD) (t : Fin cfg0.N) (d) : (dats m 0 c).before 6 t d = if tb t.val then d else XSv m c := by
  rw [(dats m 0 c).before_out_traj 6 rfl (fun _ _ => rfl) (fun t ht _ _ => by rw [after_w6, after_w6]) t.val t rfl d, fresh6, after_w6]
theorem tb_mid (t : Fin cfg0.N) (h : t.val ≠ 0) : tb t.val = false := by
  have ht := lt36 t
  rw [tb, Bool.or_eq_false_iff]; exact ⟨beq_false_of_ne h, beq_false_of_ne (by omega)⟩
theorem before_w5_mid (c : Dev nD) (t : Fin cfg0.N) (h : t.val ≠ 0) (d) : (dats m 0 c).before 5 t d = COv m c := by
  rw [before_w5, tb_mid t h]; rfl
theorem before_w6_mid (c : Dev nD) (t : Fin cfg0.N) (h : t.val ≠ 0) (d) : (dats m 0 c).before 6 t d = XSv m c := by
  rw [before_w6, tb_mid t h]; rfl

/-- Such a window's buffer holding the codes is what the obligation asks of it after any point. -/
theorem leave5 (c : Dev nD) (t : Fin cfg0.N) :
    (owns (c : Thread nD τ) ((cfg0.win 5).stage (cfg0.slots t 5)) fullShare (COv m c) : sProp 𝕄)
      ⊢ match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t) := by
  cases cfg0.idle 5 (cfg0.grid.coords t)
  · dsimp only; rw [after_w5]
  · cases (cfg0.win 5).flush t
    · dsimp only
      iintro H; iexists (COv m c); rw [before_w5, ite_self]; iexact H
    · dsimp only; rw [after_w5]
theorem leave6 (c : Dev nD) (t : Fin cfg0.N) :
    (owns (c : Thread nD τ) ((cfg0.win 6).stage (cfg0.slots t 6)) fullShare (XSv m c) : sProp 𝕄)
      ⊢ match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) := by
  cases cfg0.idle 6 (cfg0.grid.coords t)
  · dsimp only; rw [after_w6]
  · cases (cfg0.win 6).flush t
    · dsimp only
      iintro H; iexists (XSv m c); rw [before_w6, ite_self]; iexact H
    · dsimp only; rw [after_w6]

/-! ## The body at a point -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4))
        (win0_5.stage (a.2 5)) (hstage0_5 ((a.2 5).cast nbuf0_5)) (win0_6.stage (a.2 6)) (hstage0_6 ((a.2 6).cast nbuf0_6)) := rfl
/-- The kernel on point `t`'s staging buffers. -/
abbrev bodyT (t : Fin cfg0.N) : Prog (TpuEff nD τ sig (Elt F) Λ₀ .tc) PUnit :=
  bodyG (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6))
theorem prog_eq (t : Fin cfg0.N) : (defs₀ (F := F)) .tc cfg0.body (cfg0.bodyArgs t (cfg0.slots t)) = bodyT t :=
  (congrFun defs_tc _).trans rfl

/-- Holding a buffer at contents that read `X` is owning it at `X`. -/
theorem owns_intro (c : Dev nD) {sp : Space} {sh : Shape} {e : EltTy} (M : Memref sig .tc sp sh e) (f : Buf (Elt F) (M.view.loc (c : Thread nD τ)))
    (X : sh.Idx → Elt F e) (h : M.view.read (Elt F) f = X) : (own c M f : sProp 𝕄) ⊢ owns (c : Thread nD τ) M fullShare X := by
  unfold owns
  iintro H; iexists f; isplitr; · ipureintro; exact h
  iexact H

theorem owns_elim (c : Dev nD) {sp : Space} {sh : Shape} {e : EltTy} (M : Memref sig .tc sp sh e) (X : sh.Idx → Elt F e) :
    (owns (c : Thread nD τ) M fullShare X : sProp 𝕄) ⊢ iprop(∃ f : Buf (Elt F) (M.view.loc (c : Thread nD τ)), ⌜M.view.read (Elt F) f = X⌝ ∗ own c M f) := .rfl

/-- The staging buffers of the inputs, held at contents that read their blocks; then the whole step at a point after the first. -/
theorem step_pos (c : Dev nD) (t : Fin cfg0.N) (h : t.val ≠ 0) (g3 g4 g7 W)
    (h3 : (st0_1 t).view.read (Elt F) g3 = Sv m c t) (h7 : (st0_5 t).view.read (Elt F) g7 = COv m c) (Q : PUnit → sProp 𝕄) :
    iprop((Φ1 m c t.val ∗ own c (st0_1 t) g3 ∗ own c (st0_4 t) g4 ∗ own c (st0_5 t) g7 ∗ owes (c : Thread nD τ) 0 W)
      ∗ ((Φ1 m c (t.val + 1) ∗ own c (st0_1 t) g3 ∗ owns (c : Thread nD τ) (st0_4 t) fullShare (Yv m c t) ∗ own c (st0_5 t) g7 ∗ ∃ W, owes (c : Thread nD τ) 0 W) -∗ Q ⟨⟩))
      ⊢ wp frame (wpE (defs₀ (F := F)) 𝒱₀ (c : Thread nD τ) none) Set.univ (bodyT t) Q := by
  have h0 : ¬ (grid0.coords t 0).val = 0 := by rw [coord]; exact h
  unfold Φ1
  rw [← coord t]
  iintro ⟨⟨⟨HR, ⟨%f10, %h10, H10⟩, H11, ⟨%f12, %h12, H12⟩⟩, H3, H6, H7, HW⟩, Hk⟩
  have hy := yPay_eq c (XW m c) (grid0.coords t) (st0_1 t) (st0_5 t) g3 g7 f10 f12 _ _ _ h7 h10 h12
  rw [h3] at hy
  have hy6 := (store6 (st0_4 t) g4 (yPay c (XW m c) (grid0.coords t) (st0_1 t) (st0_5 t) g3 g7 f10 f12)).trans hy
  by_cases h6 : (grid0.coords t 0).val + 6 < 36
  · iapply (stepMid c (XW m c) (grid0.coords t) (st0_0 t) _ (st0_1 t) _ (st0_2 t) _ (st0_3 t) _ (st0_4 t) _ (st0_5 t) _ (st0_6 t) _ h0 h6 g3 g4 g7 f10 f12 W Q)
    isplitl [HR H10 H12 H3 H6 H7 HW]
    · isplitl [H3]; · iexact H3
      isplitl [H6]; · iexact H6
      isplitl [H7]; · iexact H7
      isplitl [H10]; · iexact H10
      isplitl [H12]; · iexact H12
      isplitl [HR]; · iexact HR
      iexact HW
    iintro ⟨H3, H6, H7, H10, H12, HR, HW⟩
    iapply Hk
    isplitl [HR H10 H11 H12]
    · isplitl [HR]; · iexact HR
      isplitl [H10]
      · iexists f10; isplitr; · ipureintro; exact h10
        iexact H10
      isplitl [H11]; · iexact H11
      iexists f12; isplitr; · ipureintro; exact h12
      iexact H12
    isplitl [H3]; · iexact H3
    isplitl [H6]
    · iapply (owns_intro c (st0_4 t) _ (Yv m c t) hy6); iexact H6
    isplitl [H7]; · iexact H7
    iexact HW
  · iapply (stepTail c (XW m c) (grid0.coords t) (st0_0 t) _ (st0_1 t) _ (st0_2 t) _ (st0_3 t) _ (st0_4 t) _ (st0_5 t) _ (st0_6 t) _ h0 (by omega) g3 g4 g7 f10 f12 W Q)
    isplitl [HR H10 H12 H3 H6 H7 HW]
    · isplitl [H3]; · iexact H3
      isplitl [H6]; · iexact H6
      isplitl [H7]; · iexact H7
      isplitl [H10]; · iexact H10
      isplitl [H12]; · iexact H12
      isplitl [HR]; · iexact HR
      iexact HW
    iintro ⟨H3, H6, H7, H10, H12, HR, HW⟩
    iapply Hk
    isplitl [HR H10 H11 H12]
    · isplitl [HR]; · iexact HR
      isplitl [H10]
      · iexists f10; isplitr; · ipureintro; exact h10
        iexact H10
      isplitl [H11]; · iexact H11
      iexists f12; isplitr; · ipureintro; exact h12
      iexact H12
    isplitl [H3]; · iexact H3
    isplitl [H6]
    · iapply (owns_intro c (st0_4 t) _ (Yv m c t) hy6); iexact H6
    isplitl [H7]; · iexact H7
    iexact HW

/-- The names of the first point's block and slot. -/
theorem home_first (c : Dev nD) (t : Fin cfg0.N) (h : t.val = 0) (XA) : homeP (F := F) c XA 0 = homeP c XA (Ring.bk 36 (grid0.coords t 0).val) := by rw [coord, h]; rfl
theorem home_six (c : Dev nD) (t : Fin cfg0.N) (h : t.val = 0) (XA) : homeP (F := F) c XA (Ring.bk 36 (0 + 6)) = homeP c XA (Ring.bk 36 ((grid0.coords t 0).val + 6)) := by rw [coord, h]
theorem cell_first (c : Dev nD) (t : Fin cfg0.N) (h : t.val = 0) : cellP (F := F) c 0 = cellP c (Ring.sl 6 (grid0.coords t 0).val) := by rw [coord, h]; rfl
theorem slot_first (c : Dev nD) (t : Fin cfg0.N) (h : t.val = 0) : (iprop(∃ f, slotP (F := F) c 0 f) : sProp 𝕄) = iprop(∃ f, slotP c (Ring.sl 6 (grid0.coords t 0).val) f) := by rw [coord, h]; rfl

theorem rest_at_first (c : Dev nD) (t : Fin cfg0.N) (h : t.val = 0) (XA) :
    bigSep ((Ring.homeSet (NB := 36) 6 0).erase (Ring.bk 36 (0 + 6))) (homeP (F := F) c XA)
      = bigSep ((Ring.homeSet 6 (grid0.coords t 0).val).erase (Ring.bk 36 ((grid0.coords t 0).val + 6))) (homeP c XA) := by rw [coord, h]

/-- The whole step at the first point. -/
theorem step_zero (c : Dev nD) (t : Fin cfg0.N) (h : t.val = 0) (g1 g3 g4 g5 g6 g7 g8 W)
    (h1 : (st0_0 t).view.read (Elt F) g1 = Xv m c) (h3 : (st0_1 t).view.read (Elt F) g3 = Sv m c t)
    (h4 : (st0_2 t).view.read (Elt F) g4 = Cv m c) (h5 : (st0_3 t).view.read (Elt F) g5 = Dv m c) (Q : PUnit → sProp 𝕄) :
    iprop((Φ0 m c ∗ own c (st0_0 t) g1 ∗ own c (st0_1 t) g3 ∗ own c (st0_2 t) g4 ∗ own c (st0_3 t) g5 ∗ own c (st0_4 t) g6 ∗ own c (st0_5 t) g7 ∗ own c (st0_6 t) g8 ∗ owes (c : Thread nD τ) 0 W)
      ∗ ((Φ1 m c 1 ∗ own c (st0_0 t) g1 ∗ own c (st0_1 t) g3 ∗ own c (st0_2 t) g4 ∗ own c (st0_3 t) g5
          ∗ owns (c : Thread nD τ) (st0_4 t) fullShare (Yv m c t) ∗ owns (c : Thread nD τ) (st0_5 t) fullShare (COv m c) ∗ owns (c : Thread nD τ) (st0_6 t) fullShare (XSv m c) ∗ ∃ W, owes (c : Thread nD τ) 0 W) -∗ Q ⟨⟩))
      ⊢ wp frame (wpE (defs₀ (F := F)) 𝒱₀ (c : Thread nD τ) none) Set.univ (bodyT t) Q := by
  have h0 : (grid0.coords t 0).val = 0 := by rw [coord]; exact h
  have hc1 : k0_cond1 (grid0.coords t) = 1#1 := (cond1_iff _).2 h0
  have ck := ckB_read c (st0_2 t) g4
  rw [h4] at ck
  unfold Φ0
  rw [homes_zero, homes_here c (XW m c) 0 (by omega), home_first c t h, home_six c t h, slots6, slot_first c t h, cells6, cell_first c t h]
  iintro ⟨⟨⟨⟨Hh0, Hh1, Hh2, Hh3, Hh4, Hh5, Hh6, Hrest⟩, ⟨⟨%s0, Hs0⟩, ⟨%s1, Hs1⟩, ⟨%s2, Hs2⟩, ⟨%s3, Hs3⟩, ⟨%s4, Hs4⟩, ⟨%s5, Hs5⟩⟩, HC, ⟨%f10, H10⟩, ⟨%f11, H11⟩, ⟨%f12, H12⟩⟩, H1, H3, H4, H5, H6, H7, H8, HW⟩, Hk⟩
  have a7 := after7 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) g7
  have a10 := after10 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) f10
  have a12 := after12 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) f12
  have st := fun P hP => stepZero c (XW m c) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) h0 hc1 g1 g3 g4 g5 g6 g7 g8 f10 f11 f12 W s0 s1 s2 s3 s4 s5 P hP Q
  rw [h1] at a7 a10 a12
  rw [h5, ck] at a10
  obtain ⟨P, hP⟩ : ∃ P, P = PB c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) (Scf.trips k0_t1_loop.lb k0_t1_loop.ub k0_t1_loop.st) := ⟨_, rfl⟩
  rw [← hP] at a7 a10 a12
  have hy := yPay_eq c (XW m c) (grid0.coords t) (st0_1 t) (st0_5 t) g3 _ _ _ _ _ _ a7 a10 a12
  rw [h3] at hy
  have hy6 := (store6 (st0_4 t) g6 (yPay c (XW m c) (grid0.coords t) (st0_1 t) (st0_5 t) g3 ((st0_5 t).view.writes (Elt F) g7 P.1) (uM.view.writes (Elt F) f10 P.2.1) (xsbM.view.writes (Elt F) f12 P.2.2))).trans hy
  have h8 := (store8 (st0_6 t) g8 (k0_pay53 (xsbM.view.readAt (Elt F) R12.toLoadRect (xsbM.view.writes (Elt F) f12 P.2.2)))).trans
    (congrArg k0_pay53 ((load12 (xsbM.view.writes (Elt F) f12 P.2.2)).trans a12))
  iapply (st P hP)
  isplitl [Hh0 Hh1 Hh2 Hh3 Hh4 Hh5 Hh6 Hs0 Hs1 Hs2 Hs3 Hs4 Hs5 HC H10 H11 H12 H1 H3 H4 H5 H6 H7 H8 HW]
  · isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H10 H11 H12]
    · isplitl [H10]; · iexact H10
      isplitl [H11]; · iexact H11
      iexact H12
    isplitl [Hh0 Hh1 Hh2 Hh3 Hh4 Hh5 Hh6]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      iexact Hh6
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [HC]; · iexact HC
    iexact HW
  iintro ⟨H1, H3, H4, H5, H6, H7, H8, ⟨H10, H11, H12⟩, Hh0, HF, HS, HW⟩
  iapply Hk
  isplitl [H10 H11 H12 Hh0 HF HS Hrest]
  · unfold Φ1
    isplitl [Hh0 HF HS Hrest]
    · irw [show (1 : ℕ) = (grid0.coords t 0).val + 1 by rw [h0]]
      iapply (ringAt_next c (XW m c) (grid0.coords t 0).val (by omega))
      isplitl [Hh0 Hrest]
      · isplitl [Hh0]; · iexact Hh0
        iapply (entails_of_eq (rest_at_first c t h (XW m c))); iexact Hrest
      isplitl [HF]; · iexact HF
      iexact HS
    isplitl [H10]
    · iexists _; isplitr; · ipureintro; exact a10
      iexact H10
    isplitl [H11]; · iexists _; iexact H11
    iexists _; isplitr; · ipureintro; exact a12
    iexact H12
  isplitl [H1]; · iexact H1
  isplitl [H3]; · iexact H3
  isplitl [H4]; · iexact H4
  isplitl [H5]; · iexact H5
  isplitl [H6]
  · iapply (owns_intro c (st0_4 t) _ (Yv m c t) hy6); iexact H6
  isplitl [H7]
  · iapply (owns_intro c (st0_5 t) _ (COv m c) a7); iexact H7
  isplitl [H8]
  · iapply (owns_intro c (st0_6 t) _ (XSv m c) h8); iexact H8
  iexact HW

theorem owns_mid6 (c : Dev nD) (t : Fin cfg0.N) (h : t.val ≠ 0) (d) :
    (owns (c : Thread nD τ) ((cfg0.win 6).stage (cfg0.slots t 6)) fullShare ((dats m 0 c).before 6 t d) : sProp 𝕄)
      ⊢ owns (c : Thread nD τ) ((cfg0.win 6).stage (cfg0.slots t 6)) fullShare (XSv m c) := by rw [before_w6_mid m c t h]

/-! ## The body obligation -/

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c t.val from rfl, show (dats m 0 c).Φ t.succ = Φ1 m c (t.val + 1) from Φ_pos m c (Nat.succ_ne_zero _)]
  unfold Dat.owesAt Pipeline.owesWithin
  rw [show (dats m 0 c).owed t.castSucc = 0 from rfl, show (dats m 0 c).owed t.succ = 0 from rfl]
  by_cases h : t.val = 0
  · obtain rfl : t = t0 := Fin.ext h
    rw [Φ_zero m c h]
    iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
    ihave H0' := (owns_elim c (st0_0 t0) _) $$ H0
    icases H0' with ⟨%g0, %e0, H0⟩
    ihave H1' := (owns_elim c (st0_1 t0) _) $$ H1
    icases H1' with ⟨%g1, %e1, H1⟩
    ihave H2' := (owns_elim c (st0_2 t0) _) $$ H2
    icases H2' with ⟨%g2, %e2, H2⟩
    ihave H3' := (owns_elim c (st0_3 t0) _) $$ H3
    icases H3' with ⟨%g3, %e3, H3⟩
    ihave H4' := (owns_elim c (st0_4 t0) _) $$ H4
    icases H4' with ⟨%g4, %e4, H4⟩
    ihave H5' := (owns_elim c (st0_5 t0) _) $$ H5
    icases H5' with ⟨%g5, %e5, H5⟩
    ihave H6' := (owns_elim c (st0_6 t0) _) $$ H6
    icases H6' with ⟨%g6, %e6, H6⟩
    sl_rw [prog_eq t0]
    iapply (step_zero m c t0 h g0 g1 g2 g3 g4 g5 g6 W e0 e1 e2 e3)
    isplitl [HΦ HW H0 H1 H2 H3 H4 H5 H6]
    · isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HW
    iintro ⟨HΦ, H0, H1, H2, H3, H4, H5, H6, ⟨%W', HW⟩⟩
    isplitl [HΦ]; · iexact HΦ
    isplitl [HW]
    · iexists W'; isplitr; · ipureintro; exact fun _ _ => Or.inl trivial
      iexact HW
    isplitl [H0]; · iapply (owns_intro c (st0_0 t0) g0 _ e0); iexact H0
    isplitl [H1]; · iapply (owns_intro c (st0_1 t0) g1 _ e1); iexact H1
    isplitl [H2]; · iapply (owns_intro c (st0_2 t0) g2 _ e2); iexact H2
    isplitl [H3]; · iapply (owns_intro c (st0_3 t0) g3 _ e3); iexact H3
    isplitl [H4]; · iexact H4
    isplitl [H5]; · iapply (leave5 m c t0); iexact H5
    iapply (leave6 m c t0); iexact H6
  · rw [Φ_pos m c h]
    iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
    ihave H1' := (owns_elim c (st0_1 t) _) $$ H1
    icases H1' with ⟨%g1, %e1, H1⟩
    ihave H4' := (owns_elim c (st0_4 t) _) $$ H4
    icases H4' with ⟨%g4, %e4, H4⟩
    ihave H5' := (owns_elim c (st0_5 t) _) $$ H5
    icases H5' with ⟨%g5, %e5, H5⟩
    rw [before_w5_mid m c t h] at e5
    ihave H6' := (owns_mid6 m c t h d6) $$ H6
    sl_rw [prog_eq t]
    iapply (step_pos m c t h g1 g4 g5 W e1 e5)
    isplitl [HΦ HW H1 H4 H5]
    · isplitl [HΦ]; · iexact HΦ
      isplitl [H1]; · iexact H1
      isplitl [H4]; · iexact H4
      isplitl [H5]; · iexact H5
      iexact HW
    iintro ⟨HΦ, H1, H4, H5, ⟨%W', HW⟩⟩
    isplitl [HΦ]; · iexact HΦ
    isplitl [HW]
    · iexists W'; isplitr; · ipureintro; exact fun _ _ => Or.inl trivial
      iexact HW
    isplitl [H0]; · iexact H0
    isplitl [H1]; · iapply (owns_intro c (st0_1 t) g1 _ e1); iexact H1
    isplitl [H2]; · iexact H2
    isplitl [H3]; · iexact H3
    isplitl [H4]; · iexact H4
    isplitl [H5]
    · iapply (leave5 m c t)
      iapply (owns_intro c (st0_5 t) g5 _ e5); iexact H5
    iapply (leave6 m c t); iexact H6'

end Cert.Proof.Kernel

end
-- ==== Proof.KernelFinish.lean ====
/-
  The run of the whole program: what every finished run leaves in memory, and that the arguments are kept.
-/
module

public import proofs.«01_k».proof.Proof.KernelLaunch

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- After the last point the whole ring is free and every block home. -/
theorem ring_last (c : Dev nD) (XA : Buf (Elt F) (wM.view.loc (c : Thread nD τ))) :
    (ringAt c XA 36 : sProp 𝕄) ⊢ iprop(bigSep Finset.univ (homeP c XA) ∗ slots6 c ∗ cells6 c) := by
  unfold ringAt restS
  rw [homes_last, slotN_ge c XA (show ¬ 36 < 36 by omega), slotN_ge c XA (show ¬ 36 + 1 < 36 by omega), slotN_ge c XA (show ¬ 36 + 2 < 36 by omega),
    slotN_ge c XA (show ¬ 36 + 3 < 36 by omega), slotN_ge c XA (show ¬ 36 + 4 < 36 by omega), slotN_ge c XA (show ¬ 36 + 5 < 36 by omega)]
  rw [show Ring.sl 6 36 = 0 from rfl, show Ring.sl 6 (36 + 1) = 1 from rfl, show Ring.sl 6 (36 + 2) = 2 from rfl,
    show Ring.sl 6 (36 + 3) = 3 from rfl, show Ring.sl 6 (36 + 4) = 4 from rfl, show Ring.sl 6 (36 + 5) = 5 from rfl]
  iintro ⟨H, ⟨C0, S0⟩, ⟨C1, S1⟩, ⟨C2, S2⟩, ⟨C3, S3⟩, ⟨C4, S4⟩, ⟨C5, S5⟩⟩
  isplitl [H]; · iexact H
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [C0]; · iexact C0
  isplitl [C1]; · iexact C1
  isplitl [C2]; · iexact C2
  isplitl [C3]; · iexact C3
  isplitl [C4]; · iexact C4
  iexact C5

/-- What the region takes in: the weight's blocks home, the ring's cells at zero. -/
def intoΦ (c : Dev nD) : sProp 𝕄 := iprop(bigSep Finset.univ (homeP c (XW m c)) ∗ Pipeline.ownSems0 osem c)
/-- What it gives back: the weight whole. -/
def outOfΦ (c : Dev nD) : sProp 𝕄 := ((c : Thread nD τ).loc main_arg1) ↦{fullShare} V m c main_arg1
/-- What stays outside: the two arguments read by the host operations only. -/
def keptΦ (c : Dev nD) : sProp 𝕄 :=
  iprop((((c : Thread nD τ).loc main_arg0) ↦{fullShare} V m c main_arg0) ∗ (((c : Thread nD τ).loc main_arg2) ↦{fullShare} V m c main_arg2))
def u₀ : UU nD τ := (initOf (Pipeline.cells cfgs Gen.cellOf_inj) (Pipeline.launchToks cfgs Gen.cellOf_inj), 1)
/-- A window's array after the run. -/
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = V m c main_arg1 ∧ s.mem ((c : Thread nD τ).loc main_arg0) = V m c main_arg0 ∧ s.mem ((c : Thread nD τ).loc main_arg2) = V m c main_arg2
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- From any memory with zero counters every weakly fair execution of the program terminates, with every window's array
    at its computed contents, the other arguments unchanged, every semaphore counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := keptΦ m)
    (hX := fun c => by
      rw [unscopedRest0_eq, w_eq m c]
      unfold intoΦ keptΦ
      iintro ⟨⟨H0, H1, H2⟩, HS, -, -, -⟩; imodintro
      isplitl [H1 HS]
      · isplitl [H1]; · iexact H1
        iexact HS
      isplitl [H0]; · iexact H0
      iexact H2)
    (hin := fun c => by
      rw [scopedRest0_eq, show (dats m 0 c).Φ 0 = Φ0 m c from Φ_zero m c rfl]
      unfold intoΦ Φ0; rw [ownSems0_eq]
      iintro ⟨⟨H0, HC⟩, Hb, ⟨%f1, H1⟩, ⟨%f2, H2⟩, ⟨%f3, H3⟩⟩
      ihave Hs := (buf_split c) $$ Hb
      isplitl [H0]; · iexact H0
      isplitl [Hs]; · iexact Hs
      isplitl [HC]; · iexact HC
      isplitl [H1]
      · iexists f1; iapply (entails_of_eq (own_whole c cc0_scratch1 f1)); iexact H1
      isplitl [H2]
      · iexists f2; iapply (entails_of_eq (own_whole c cc0_scratch2 f2)); iexact H2
      iexists f3; iapply (entails_of_eq (own_whole c cc0_scratch3 f3)); iexact H3)
    (hout := fun c => by
      rw [scopedRest0_eq, show (dats m 0 c).Φ (Fin.last cfg0.N) = Φ1 m c 36 from (congrArg (Φ m c) N36).trans (Φ_pos m c (by decide)), ownSems0_eq]
      unfold Φ1 outOfΦ; rw [w_eq m c]
      iintro ⟨HR, ⟨%f1, -, H1⟩, ⟨%f2, H2⟩, ⟨%f3, -, H3⟩⟩
      ihave HR2 := (ring_last c (XW m c)) $$ HR
      icases HR2 with ⟨H0, HS, HC⟩
      isplitl [H0]; · iexact H0
      isplitl [HC]; · iexact HC
      isplitl [HS]; · iapply (buf_join c); iexact HS
      isplitl [H1]
      · iexists f1; iapply (entails_of_eq (own_whole c cc0_scratch1 f1).symm); iexact H1
      isplitl [H2]
      · iexists f2; iapply (entails_of_eq (own_whole c cc0_scratch2 f2).symm); iexact H2
      iexists f3; iapply (entails_of_eq (own_whole c cc0_scratch3 f3).symm); iexact H3)
    (QY := QY m)
    (hY := fun c s' => by
      unfold outOfΦ keptΦ
      iintro ⟨H1, ⟨H0, H2⟩, HSI⟩
      icombine HSI H1 gives %h1
      icombine HSI H0 gives %h0
      icombine HSI H2 gives %h2
      imodintro
      isplitr
      · ipureintro; exact ⟨Buf.eq_of_forall_mem_univ h1, Buf.eq_of_forall_mem_univ h0, Buf.eq_of_forall_mem_univ h2⟩
      iexact HSI)
    (hQ := fun _ hh hz => ⟨hh, hz⟩)

theorem finalA_in (c : Dev nD) (w : Fin cfg0.W) (hw : (cfg0.win w).isOut = false) :
    finalA m c w = V m c (Pipeline.arrRef spec0 w) := (dats (F := F) m 0 c).arrAt_in w hw _

/-- The program ends with its arguments kept, its results at `finalA`, every counter at zero. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hh => ⟨fun c =>
    ⟨(hh.1 c).2.2.1.trans (V_main_arg0 m c), (hh.1 c).2.1.trans (V_main_arg1 m c), (hh.1 c).2.2.2.trans (V_main_arg2 m c),
      ((hh.1 c).1 2).trans ((finalA_in m c 2 rfl).trans (V_main_arg3 m c)), ((hh.1 c).1 3).trans ((finalA_in m c 3 rfl).trans (V_main_arg4 m c))⟩, hh.2⟩)
    (run_main m ρ)

end Cert.Proof.Kernel

end
-- ==== Proof.KernelIdealRing.lean ====
/-
  The weight ring of the kernel, and its body at one grid point.

  The weight `w` (18432 x 7168 codes) stays in HBM.  The kernel copies it block by block (36 blocks of 512 rows) into
  the six slots of a VMEM buffer, each slot with its own DMA semaphore: point 0 starts blocks 0 to 5, point `t` waits
  for block `t` in slot `t % 6`, computes with it, and starts block `t + 6` into the slot it has just used, if there
  is such a block.  So six copies are in flight across each boundary between points.

  This module names the blocks, slots and semaphores (`grp`, `rslot`, `csm`), says what is held between two points
  (`ringAt`), and runs the body at a point after the first.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Names: block `b` of the weight, slot `s` of the buffer, slot `s`'s semaphore -/

abbrev wM : Memref sig .tc .hbm S18432x7168 .fp8e4m3 := Memref.whole main_arg1
abbrev bufM : Memref sig .tc .vmem S6x512x7168 .fp8e4m3 := Memref.whole cc0_scratch0
abbrev uM : Memref sig .tc .vmem S36x256x512 .f32 := Memref.whole cc0_scratch1
abbrev ckM : Memref sig .tc .vmem S288x448 .bf16 := Memref.whole cc0_scratch2
abbrev xsbM : Memref sig .tc .vmem S256x128 .f32 := Memref.whole cc0_scratch3

abbrev grpOff (b : Fin 36) : Fin 2 → Nat := ![512 * b.val, 0]
theorem grpOff_inb (b : Fin 36) : ∀ a, grpOff b a + S512x7168.size a ≤ S18432x7168.size a := by
  have := b.isLt; intro a; fin_cases a
  · show 512 * b.val + 512 ≤ 18432; omega
  · show 0 + 7168 ≤ 7168; omega
abbrev slotOff (s : Fin 6) : Fin 3 → Nat := ![s.val, 0, 0]
theorem slotOff_inb (s : Fin 6) : ∀ a, slotOff s a + S1x512x7168.size a ≤ S6x512x7168.size a := by
  have := s.isLt; intro a; fin_cases a
  · show s.val + 1 ≤ 6; omega
  · show 0 + 512 ≤ 512; omega
  · show 0 + 7168 ≤ 7168; omega
abbrev semOff (s : Fin 6) : Fin 1 → Nat := ![s.val]
theorem semOff_inb (s : Fin 6) : ∀ a, semOff s a + S1.size a ≤ S6.size a := by
  have := s.isLt; intro a; fin_cases a; show s.val + 1 ≤ 6; omega

/-- Block `b` of the weight, as the body slices it. -/
def grp (b : Fin 36) : Memref sig .tc .hbm S512x7168 .fp8e4m3 :=
  wM.slice (Rect.unit (s := S18432x7168) (grpOff b) S512x7168.size (grpOff_inb b)) (fun _ => rfl)
/-- Slot `s` of the buffer, as the body slices and squeezes it. -/
def rslot (s : Fin 6) : Memref sig .tc .vmem S512x7168 .fp8e4m3 :=
  (bufM.slice (Rect.unit (s := S6x512x7168) (slotOff s) S1x512x7168.size (slotOff_inb s)) (fun _ => rfl)).squeeze S512x7168 squeezes_S1x512x7168_S512x7168
/-- Slot `s`'s DMA semaphore. -/
def csm (s : Fin 6) : DmaSems sig S_ := (cc0_scratch4.slice (Rect.unit (s := S6) (semOff s) S1.size (semOff_inb s))).squeeze S_ squeezes_S1_S_

instance (s : Fin 6) : ClosedOff (slotOff s) := ⟨slotOff s, rfl⟩
instance (b : Fin 36) : ClosedOff (grpOff b) := ⟨grpOff b, rfl⟩

/-! ## The offsets the body computes, in closed form -/

theorem rem6 : ∀ t : Fin 36, (Scalar.remsi (BitVec.ofNat 32 t.val) 6#32).toNat = (Ring.sl 6 t.val).val := by decide +kernel
theorem rem6i : ∀ t : Fin 36, (Scalar.indexCast (Scalar.remsi (BitVec.ofNat 32 t.val) 6#32) : Index).toNat = (Ring.sl 6 t.val).val := by decide +kernel
theorem idx36 : ∀ t : Fin 36, (Scalar.indexCast (BitVec.ofNat 32 t.val) : Index).toNat = t.val := by decide +kernel
theorem mul512 : ∀ t : Fin 36, (Scalar.muli (BitVec.ofNat 32 t.val) 512#32).toNat = 512 * (Ring.bk 36 t.val).val := by decide +kernel
theorem rem6n : ∀ t : Fin 36, (Scalar.remsi (Scalar.addi (BitVec.ofNat 32 t.val) 6#32) 6#32).toNat = (Ring.sl 6 t.val).val := by decide +kernel
theorem mul512n : ∀ t : Fin 36, t.val + 6 < 36 → (Scalar.muli (Scalar.addi (BitVec.ofNat 32 t.val) 6#32) 512#32).toNat = 512 * (Ring.bk 36 (t.val + 6)).val := by decide +kernel

section Offs
variable (i : grid0.Coords)
theorem off6_eq : k0_off6 i = semOff (Ring.sl 6 (i 0).val) := congrArg (fun n => (![n] : Fin 1 → Nat)) (rem6 (i 0))
theorem off7_eq : k0_off7 i = slotOff (Ring.sl 6 (i 0).val) := congrArg (fun n => (![n, 0, 0] : Fin 3 → Nat)) (rem6 (i 0))
theorem off8_eq : k0_off8 i = grpOff (Ring.bk 36 (i 0).val) := congrArg (fun n => (![n, 0] : Fin 2 → Nat)) (mul512 (i 0))
theorem off9_eq : k0_off9 i = slotOff (Ring.sl 6 (i 0).val) := congrArg (fun n => (![n, 0, 0] : Fin 3 → Nat)) (rem6i (i 0))
theorem off10_eq : k0_off10 i = ![(i 0).val, 0, 0] := congrArg (fun n => (![n, 0, 0] : Fin 3 → Nat)) (idx36 (i 0))
theorem off11_eq : k0_off11 i = semOff (Ring.sl 6 (i 0).val) := congrArg (fun n => (![n] : Fin 1 → Nat)) (rem6n (i 0))
theorem off12_eq : k0_off12 i = slotOff (Ring.sl 6 (i 0).val) := congrArg (fun n => (![n, 0, 0] : Fin 3 → Nat)) (rem6n (i 0))
theorem off13_eq (h : (i 0).val + 6 < 36) : k0_off13 i = grpOff (Ring.bk 36 ((i 0).val + 6)) := congrArg (fun n => (![n, 0] : Fin 2 → Nat)) (mul512n (i 0) h)

instance : ClosedOff (k0_off7 i) := ⟨slotOff (Ring.sl 6 (i 0).val), off7_eq i⟩
instance : ClosedOff (k0_off9 i) := ⟨slotOff (Ring.sl 6 (i 0).val), off9_eq i⟩
instance : ClosedOff (k0_off10 i) := ⟨![(i 0).val, 0, 0], off10_eq i⟩
end Offs

/-- The first condition holds at point 0 only; the second before the last six points. -/
theorem cond1_iff : ∀ i : grid0.Coords, k0_cond1 i = 1#1 ↔ (i 0).val = 0 := by
  have h : ∀ t : Fin 36, (Scalar.cmpi .ne (Scalar.extui (Scalar.cmpi .eq (BitVec.ofNat 32 t.val) 0#32)) 0#32) = 1#1 ↔ t.val = 0 := by decide +kernel
  exact fun i => h (i 0)
theorem cond2_iff : ∀ i : grid0.Coords, k0_cond2 i = 1#1 ↔ (i 0).val + 6 < 36 := by
  have h : ∀ t : Fin 36, (Scalar.cmpi .ne (Scalar.extui (Scalar.cmpi .slt (Scalar.addi (BitVec.ofNat 32 t.val) 6#32) 36#32)) 0#32) = 1#1 ↔ t.val + 6 < 36 := by decide +kernel
  exact fun i => h (i 0)

/-! ### The body's slices under those names -/

theorem csm_congr {off : Fin 1 → Nat} {s : Fin 6} (e : off = semOff s) (hh) :
    (cc0_scratch4.slice (Rect.unit (s := S6) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 6} (e : off = slotOff s) (hh hs) :
    (bufM.slice (Rect.unit (s := S6x512x7168) off S1x512x7168.size hh) hs).squeeze S512x7168 squeezes_S1x512x7168_S512x7168 = rslot s :=
  congrArg (fun M : Memref sig .tc .vmem S1x512x7168 .fp8e4m3 => M.squeeze S512x7168 squeezes_S1x512x7168_S512x7168) (Memref.slice_unit_congr _ e _ _ _ _)
theorem grp_congr {off : Fin 2 → Nat} {b : Fin 36} (e : off = grpOff b) (hh hs) :
    wM.slice (Rect.unit (s := S18432x7168) off S512x7168.size hh) hs = grp b :=
  Memref.slice_unit_congr _ e _ _ _ (fun _ => rfl)

section Canon
variable (i : grid0.Coords)
@[sl_canon] theorem semW (hh) : (cc0_scratch4.slice (Rect.unit (s := S6) (k0_off6 i) S1.size hh)).squeeze S_ squeezes_S1_S_ = csm (Ring.sl 6 (i 0).val) := csm_congr (off6_eq i) _
@[sl_canon] theorem semI (hh) : (cc0_scratch4.slice (Rect.unit (s := S6) (k0_off11 i) S1.size hh)).squeeze S_ squeezes_S1_S_ = csm (Ring.sl 6 (i 0).val) := csm_congr (off11_eq i) _
@[sl_canon] theorem slotW (hh hs) : (bufM.slice (Rect.unit (s := S6x512x7168) (k0_off7 i) S1x512x7168.size hh) hs).squeeze S512x7168 squeezes_S1x512x7168_S512x7168 = rslot (Ring.sl 6 (i 0).val) := rslot_congr (off7_eq i) _ _
@[sl_canon] theorem slotI (hh hs) : (bufM.slice (Rect.unit (s := S6x512x7168) (k0_off12 i) S1x512x7168.size hh) hs).squeeze S512x7168 squeezes_S1x512x7168_S512x7168 = rslot (Ring.sl 6 (i 0).val) := rslot_congr (off12_eq i) _ _
@[sl_canon] theorem grpW (hh hs) : wM.slice (Rect.unit (s := S18432x7168) (k0_off8 i) S512x7168.size hh) hs = grp (Ring.bk 36 (i 0).val) := grp_congr (off8_eq i) _ _
@[sl_canon] theorem grpI (h : (i 0).val + 6 < 36) (hh hs) : wM.slice (Rect.unit (s := S18432x7168) (k0_off13 i) S512x7168.size hh) hs = grp (Ring.bk 36 ((i 0).val + 6)) := grp_congr (off13_eq i h) _ _

/-- The first point's six copies. -/
@[sl_canon] theorem semL0 (hh) : (cc0_scratch4.slice (Rect.unit (s := S6) (k0_off1 0#32) S1.size hh)).squeeze S_ squeezes_S1_S_ = csm 0 := csm_congr (by decide +kernel) _
@[sl_canon] theorem semL1 (hh) : (cc0_scratch4.slice (Rect.unit (s := S6) (k0_off1 1#32) S1.size hh)).squeeze S_ squeezes_S1_S_ = csm 1 := csm_congr (by decide +kernel) _
@[sl_canon] theorem semL2 (hh) : (cc0_scratch4.slice (Rect.unit (s := S6) (k0_off1 2#32) S1.size hh)).squeeze S_ squeezes_S1_S_ = csm 2 := csm_congr (by decide +kernel) _
@[sl_canon] theorem semL3 (hh) : (cc0_scratch4.slice (Rect.unit (s := S6) (k0_off1 3#32) S1.size hh)).squeeze S_ squeezes_S1_S_ = csm 3 := csm_congr (by decide +kernel) _
@[sl_canon] theorem semL4 (hh) : (cc0_scratch4.slice (Rect.unit (s := S6) (k0_off1 4#32) S1.size hh)).squeeze S_ squeezes_S1_S_ = csm 4 := csm_congr (by decide +kernel) _
@[sl_canon] theorem semL5 (hh) : (cc0_scratch4.slice (Rect.unit (s := S6) (k0_off1 5#32) S1.size hh)).squeeze S_ squeezes_S1_S_ = csm 5 := csm_congr (by decide +kernel) _
@[sl_canon] theorem slotL0 (hh hs) : (bufM.slice (Rect.unit (s := S6x512x7168) (k0_off2 0#32) S1x512x7168.size hh) hs).squeeze S512x7168 squeezes_S1x512x7168_S512x7168 = rslot 0 := rslot_congr (by decide +kernel) _ _
@[sl_canon] theorem slotL1 (hh hs) : (bufM.slice (Rect.unit (s := S6x512x7168) (k0_off2 1#32) S1x512x7168.size hh) hs).squeeze S512x7168 squeezes_S1x512x7168_S512x7168 = rslot 1 := rslot_congr (by decide +kernel) _ _
@[sl_canon] theorem slotL2 (hh hs) : (bufM.slice (Rect.unit (s := S6x512x7168) (k0_off2 2#32) S1x512x7168.size hh) hs).squeeze S512x7168 squeezes_S1x512x7168_S512x7168 = rslot 2 := rslot_congr (by decide +kernel) _ _
@[sl_canon] theorem slotL3 (hh hs) : (bufM.slice (Rect.unit (s := S6x512x7168) (k0_off2 3#32) S1x512x7168.size hh) hs).squeeze S512x7168 squeezes_S1x512x7168_S512x7168 = rslot 3 := rslot_congr (by decide +kernel) _ _
@[sl_canon] theorem slotL4 (hh hs) : (bufM.slice (Rect.unit (s := S6x512x7168) (k0_off2 4#32) S1x512x7168.size hh) hs).squeeze S512x7168 squeezes_S1x512x7168_S512x7168 = rslot 4 := rslot_congr (by decide +kernel) _ _
@[sl_canon] theorem slotL5 (hh hs) : (bufM.slice (Rect.unit (s := S6x512x7168) (k0_off2 5#32) S1x512x7168.size hh) hs).squeeze S512x7168 squeezes_S1x512x7168_S512x7168 = rslot 5 := rslot_congr (by decide +kernel) _ _
@[sl_canon] theorem grpL0 (hh hs) : wM.slice (Rect.unit (s := S18432x7168) ![0, 0] S512x7168.size hh) hs = grp 0 := grp_congr (by decide +kernel) _ _
@[sl_canon] theorem grpL1 (hh hs) : wM.slice (Rect.unit (s := S18432x7168) ![512, 0] S512x7168.size hh) hs = grp 1 := grp_congr (by decide +kernel) _ _
@[sl_canon] theorem grpL2 (hh hs) : wM.slice (Rect.unit (s := S18432x7168) ![1024, 0] S512x7168.size hh) hs = grp 2 := grp_congr (by decide +kernel) _ _
@[sl_canon] theorem grpL3 (hh hs) : wM.slice (Rect.unit (s := S18432x7168) ![1536, 0] S512x7168.size hh) hs = grp 3 := grp_congr (by decide +kernel) _ _
@[sl_canon] theorem grpL4 (hh hs) : wM.slice (Rect.unit (s := S18432x7168) ![2048, 0] S512x7168.size hh) hs = grp 4 := grp_congr (by decide +kernel) _ _
@[sl_canon] theorem grpL5 (hh hs) : wM.slice (Rect.unit (s := S18432x7168) ![2560, 0] S512x7168.size hh) hs = grp 5 := grp_congr (by decide +kernel) _ _
end Canon

/-! ## What is held: a block at home, a slot, a slot's semaphore, a copy in flight -/

section Pieces
variable (c : Dev nD) (XA : Buf (Elt F) (wM.view.loc (c : Thread nD τ)))

abbrev cellP (s : Fin 6) : sProp 𝕄 := semVal ((c : Thread nD τ), SemLoc.dma (csm s).sem) 0
abbrev slotP (s : Fin 6) (f : Buf (Elt F) ((rslot s).view.loc (c : Thread nD τ))) : sProp 𝕄 :=
  (rslot s).view.loc (c : Thread nD τ) ↦[(rslot s).view.set]{fullShare} f
/-- Block `b` of the weight held on its elements. -/
abbrev homeP (b : Fin 36) : sProp 𝕄 := (grp b).view.loc (c : Thread nD τ) ↦[(grp b).view.set]{fullShare} XA
/-- What the copy of block `b` leaves in slot `s` over prior contents `f`. -/
abbrev landed (s : Fin 6) (b : Fin 36) (f : Buf (Elt F) ((rslot s).view.loc (c : Thread nD τ))) : Buf (Elt F) ((rslot s).view.loc (c : Thread nD τ)) :=
  (rslot s).view.writes (Elt F) f [⟨Rect.whole S512x7168, ReadAs.same.apply ((grp b).view.read (Elt F) XA)⟩]
/-- The units one block's copy moves on its semaphore. -/
abbrev NN : ℕ := 114688
/-- Block `b` in flight into slot `s`, issued over `f`. -/
abbrev flightP (s : Fin 6) (b : Fin 36) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Slot `k % 6` between two points: block `k` in flight into it, or, past the last block, free. -/
def slotN (k : ℕ) : sProp 𝕄 :=
  if k < 36 then iprop(∃ f, flightP c XA (Ring.sl 6 k) (Ring.bk 36 k) f)
  else iprop(cellP c (Ring.sl 6 k) ∗ ∃ f, slotP c (Ring.sl 6 k) f)
theorem slotN_lt {k : ℕ} (h : k < 36) : slotN c XA k = iprop(∃ f, flightP c XA (Ring.sl 6 k) (Ring.bk 36 k) f) := if_pos h
theorem slotN_ge {k : ℕ} (h : ¬ k < 36) : slotN c XA k = iprop(cellP c (Ring.sl 6 k) ∗ ∃ f, slotP c (Ring.sl 6 k) f) := if_neg h

/-- The five slots after the current one. -/
def restS (t : ℕ) : sProp 𝕄 := iprop(slotN c XA (t + 1) ∗ slotN c XA (t + 2) ∗ slotN c XA (t + 3) ∗ slotN c XA (t + 4) ∗ slotN c XA (t + 5))
/-- The ring before point `t`, `1 ≤ t ≤ 36`. -/
def ringAt (t : ℕ) : sProp 𝕄 := iprop(bigSep (Ring.homeSet 6 t) (homeP c XA) ∗ slotN c XA t ∗ restS c XA t)

theorem homes_here (k : ℕ) (hk : k + 6 < 36) :
    bigSep (Ring.homeSet 6 k) (homeP c XA) = iprop(homeP c XA (Ring.bk 36 (k + 6)) ∗ bigSep ((Ring.homeSet 6 k).erase (Ring.bk 36 (k + 6))) (homeP c XA)) := by
  conv_lhs => rw [Ring.homeSet_out 6 k hk, bigSep_insert (Ring.bkL_not_mem_erase 6 k)]
  rfl
theorem homes_next (k : ℕ) (hk : k + 6 < 36) :
    bigSep (Ring.homeSet 6 (k + 1)) (homeP c XA) = iprop(homeP c XA (Ring.bk 36 k) ∗ bigSep ((Ring.homeSet 6 k).erase (Ring.bk 36 (k + 6))) (homeP c XA)) := by
  conv_lhs => rw [Ring.homeSet_succ 6 k hk, bigSep_insert (Ring.bk_not_mem_erase 6 k (by omega) (by decide))]
  rfl
theorem homes_next_tail (k : ℕ) (hk : 36 ≤ k + 6) (h : k < 36) :
    bigSep (Ring.homeSet 6 (k + 1)) (homeP c XA) = iprop(homeP c XA (Ring.bk 36 k) ∗ bigSep (Ring.homeSet 6 k) (homeP c XA)) := by
  conv_lhs => rw [Ring.homeSet_succ_tail 6 k hk h, bigSep_insert (Ring.bk_not_mem_homeSet 6 k h (by decide))]
  rfl

/-- Before a point that starts a copy: the outgoing block apart, this point's copy in flight. -/
theorem ringAt_here (t : ℕ) (h : t + 6 < 36) :
    ringAt c XA t = iprop((homeP c XA (Ring.bk 36 (t + 6)) ∗ bigSep ((Ring.homeSet 6 t).erase (Ring.bk 36 (t + 6))) (homeP c XA))
      ∗ (∃ f, flightP c XA (Ring.sl 6 t) (Ring.bk 36 t) f) ∗ restS c XA t) := by
  unfold ringAt; rw [homes_here c XA t h, slotN_lt c XA (by omega)]
theorem ringAt_next (t : ℕ) (h : t + 6 < 36) :
    iprop((homeP c XA (Ring.bk 36 t) ∗ bigSep ((Ring.homeSet 6 t).erase (Ring.bk 36 (t + 6))) (homeP c XA))
      ∗ (∃ f, flightP c XA (Ring.sl 6 t) (Ring.bk 36 (t + 6)) f) ∗ restS c XA t) ⊢ ringAt c XA (t + 1) := by
  unfold ringAt restS
  rw [homes_next c XA t h, show t + 1 + 5 = t + 6 from rfl, slotN_lt c XA h, Ring.sl_add,
    show t + 1 + 1 = t + 2 from rfl, show t + 1 + 2 = t + 3 from rfl, show t + 1 + 3 = t + 4 from rfl, show t + 1 + 4 = t + 5 from rfl]
  iintro ⟨H, HF, H1, H2, H3, H4, H5⟩
  isplitl [H]; · iexact H
  isplitl [H1]; · iexact H1
  isplitl [H2]; · iexact H2
  isplitl [H3]; · iexact H3
  isplitl [H4]; · iexact H4
  isplitl [H5]; · iexact H5
  iexact HF
theorem ringAt_here_tail (t : ℕ) (h : t < 36) :
    ringAt c XA t = iprop(bigSep (Ring.homeSet 6 t) (homeP c XA)
      ∗ (∃ f, flightP c XA (Ring.sl 6 t) (Ring.bk 36 t) f) ∗ restS c XA t) := by
  unfold ringAt; rw [slotN_lt c XA h]
theorem ringAt_next_tail (t : ℕ) (h : t < 36) (h6 : 36 ≤ t + 6) :
    iprop((homeP c XA (Ring.bk 36 t) ∗ bigSep (Ring.homeSet 6 t) (homeP c XA))
      ∗ (cellP c (Ring.sl 6 t) ∗ ∃ f, slotP c (Ring.sl 6 t) f) ∗ restS c XA t) ⊢ ringAt c XA (t + 1) := by
  unfold ringAt restS
  rw [homes_next_tail c XA t h6 h, show t + 1 + 5 = t + 6 from rfl, slotN_ge c XA (show ¬ t + 6 < 36 by omega), Ring.sl_add,
    show t + 1 + 1 = t + 2 from rfl, show t + 1 + 2 = t + 3 from rfl, show t + 1 + 3 = t + 4 from rfl, show t + 1 + 4 = t + 5 from rfl]
  iintro ⟨H, HF, H1, H2, H3, H4, H5⟩
  isplitl [H]; · iexact H
  isplitl [H1]; · iexact H1
  isplitl [H2]; · iexact H2
  isplitl [H3]; · iexact H3
  isplitl [H4]; · iexact H4
  isplitl [H5]; · iexact H5
  iexact HF

/-- Block `b`'s words as a slot's payload. -/
abbrev payload (b : Fin 36) : S512x7168.Idx → Elt F .fp8e4m3 := ReadAs.same.apply ((grp b).view.read (Elt F) XA)
/-- The copy the body starts, as the run states it: into the slot as the previous copy left it. -/
theorem flightP_after (s : Fin 6) (b b' : Fin 36) (f) :
    flightP c XA s b' ((rslot s).view.writes (Elt F) f [⟨Rect.whole S512x7168, payload c XA b⟩])
      = Transfers.Flight countersEmb (c : Thread nD τ) (SemLoc.dma (csm s).sem) () 114688
          iprop(((rslot s).view.loc (c : Thread nD τ) ↦[(rslot s).view.set]{fullShare}
                  (rslot s).view.writes (Elt F) f [⟨Rect.whole S512x7168, payload c XA b'⟩, ⟨Rect.whole S512x7168, payload c XA b⟩])
                ∗ homeP c XA b') := by
  simp only [flightP, landed, slotP, NN, View.writes]

end Pieces

/-! ## The body at a point after the first -/

section Step

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-- The body on the given staging buffers; the weight, the scratch buffers and the semaphores its own. -/
abbrev bodyG : Prog (TpuEff nD τ sig (Elt F) Λ₀ .tc) PUnit :=
  cc0__body i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4

/-- Ownership of a whole memref at contents `f`. -/
abbrev own {sp s e} (M : Memref sig .tc sp s e) (f : Buf (Elt F) (M.view.loc (c : Thread nD τ))) : sProp 𝕄 :=
  M.view.loc (c : Thread nD τ) ↦[M.view.set]{fullShare} f

abbrev R6 : Rect S256x512 := Rect.unit (s := S256x512) ![0, 0] S256x512.size inb_S256x512_S256x512_0_0
abbrev R7 : Rect S256x7168 := Rect.unit (s := S256x7168) ![0, 0] S256x7168.size inb_S256x7168_S256x7168_0_0

/-- What the body stores at a point: the codes held in `f7`, the block the copy left in the slot, the token scales `f12`,
    the block's weight scales `f3`, the rank-one block of `f10`. -/
abbrev yPay (f3 : Buf (Elt F) (arg3.view.loc (c : Thread nD τ))) (f7 : Buf (Elt F) (arg7.view.loc (c : Thread nD τ)))
    (f10 : Buf (Elt F) (uM.view.loc (c : Thread nD τ))) (f12 : Buf (Elt F) (xsbM.view.loc (c : Thread nD τ))) : S256x512.Idx → Elt F .bf16 :=
  k0_pay54 (arg7.view.readAt (Elt F) (R7).toLoadRect f7)
    (bufM.view.readAt (Elt F) (Rect.unit (s := S6x512x7168) (k0_off9 i) S1x512x7168.size (k0_off9_inb i)).toLoadRect
      (landed c XA (Ring.sl 6 (i 0).val) (Ring.bk 36 (i 0).val) (rslot (Ring.sl 6 (i 0).val)).view.junk))
    (xsbM.view.readAt (Elt F) (Rect.unit (s := S256x128) ![0, 0] S256x1.size inb_S256x128_S256x1_0_0).toLoadRect f12)
    (arg3.view.readAt (Elt F) (Rect.unit (s := S1x1x512) ![0, 0, 0] S1x1x512.size inb_S1x1x512_S1x1x512_0_0_0).toLoadRect f3)
    (uM.view.readAt (Elt F) (Rect.unit (s := S36x256x512) (k0_off10 i) S1x256x512.size (k0_off10_inb i)).toLoadRect f10)

set_option maxRecDepth 16384 in
theorem stepMid (h0 : ¬ (i 0).val = 0) (h6 : (i 0).val + 6 < 36)
    (f3 f6 f7 f10 f12 W) (Q : PUnit → sProp 𝕄) :
    iprop((own c arg3 f3 ∗ own c arg6 f6 ∗ own c arg7 f7 ∗ own c uM f10 ∗ own c xsbM f12 ∗ ringAt c XA (i 0).val ∗ owes (c : Thread nD τ) 0 W)
      ∗ ((own c arg3 f3 ∗ own c arg6 (arg6.view.writes (Elt F) f6 [⟨R6, yPay c XA i arg3 arg7 f3 f7 f10 f12⟩]) ∗ own c arg7 f7 ∗ own c uM f10 ∗ own c xsbM f12
          ∗ ringAt c XA ((i 0).val + 1) ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  have h1 : ¬ k0_cond1 i = 1#1 := fun h => h0 ((cond1_iff i).1 h)
  have h2 : k0_cond2 i = 1#1 := (cond2_iff i).2 h6
  rw [ringAt_here c XA _ h6]
  iintro ⟨⟨H3, H6, H7, H10, H12, ⟨⟨Hg, Hrest⟩, ⟨%f0, HF⟩, HS⟩, HW⟩, Hk⟩
  sl_exec
  sl_step
  iapply Hk
  isplitl [H3]; · iexact H3
  isplitl [H6]; · iexact H6
  isplitl [H7]; · iexact H7
  isplitl [H10]; · iexact H10
  isplitl [H12]; · iexact H12
  isplitr [HW]
  · iapply (ringAt_next c XA _ h6)
    isplitl [HF_src Hrest]
    · isplitl [HF_src]; · iexact HF_src
      iexact Hrest
    isplitl [HF]
    · iexists ((rslot (Ring.sl 6 (i 0).val)).view.writes (Elt F) (rslot (Ring.sl 6 (i 0).val)).view.junk [⟨Rect.whole S512x7168, payload c XA (Ring.bk 36 (i 0).val)⟩])
      irw [flightP_after]
      iexact HF
    iexact HS
  iexists _; iexact HW

set_option maxRecDepth 16384 in
theorem stepTail (h0 : ¬ (i 0).val = 0) (h6 : 36 ≤ (i 0).val + 6)
    (f3 f6 f7 f10 f12 W) (Q : PUnit → sProp 𝕄) :
    iprop((own c arg3 f3 ∗ own c arg6 f6 ∗ own c arg7 f7 ∗ own c uM f10 ∗ own c xsbM f12 ∗ ringAt c XA (i 0).val ∗ owes (c : Thread nD τ) 0 W)
      ∗ ((own c arg3 f3 ∗ own c arg6 (arg6.view.writes (Elt F) f6 [⟨R6, yPay c XA i arg3 arg7 f3 f7 f10 f12⟩]) ∗ own c arg7 f7 ∗ own c uM f10 ∗ own c xsbM f12
          ∗ ringAt c XA ((i 0).val + 1) ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  have h1 : ¬ k0_cond1 i = 1#1 := fun h => h0 ((cond1_iff i).1 h)
  have h2 : ¬ k0_cond2 i = 1#1 := fun h => absurd ((cond2_iff i).1 h) (by omega)
  rw [ringAt_here_tail c XA _ (i 0).isLt]
  iintro ⟨⟨H3, H6, H7, H10, H12, ⟨Hrest, ⟨%f0, HF⟩, HS⟩, HW⟩, Hk⟩
  sl_exec
  sl_step
  iapply Hk
  isplitl [H3]; · iexact H3
  isplitl [H6]; · iexact H6
  isplitl [H7]; · iexact H7
  isplitl [H10]; · iexact H10
  isplitl [H12]; · iexact H12
  isplitr [HW]
  · iapply (ringAt_next_tail c XA _ (i 0).isLt h6)
    isplitl [HF_src Hrest]
    · isplitl [HF_src]; · iexact HF_src
      iexact Hrest
    isplitl [HF HF_dst]
    · isplitl [HF]; · iexact HF
      iexists _; iexact HF_dst
    iexact HS
  iexists _; iexact HW

end Step

end Cert.Proof.KernelIdeal

end
-- ==== Proof.KernelIdealStart.lean ====
/-
  The kernel's body at its first grid point: it starts the first six copies, expands the small factor `C`, runs the
  eight trips that quantise 32 tokens each, writes the token scales out, and then does what every point does.
-/
module

public import proofs.«01_k».proof.Proof.KernelIdealRing

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section First

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-- At the first point the current slot, its semaphore and the current block are numbers 0. -/
theorem csm_first (h : (i 0).val = 0) : csm 0 = csm (Ring.sl 6 (i 0).val) := by rw [h]; rfl
theorem rslot_first (h : (i 0).val = 0) : rslot 0 = rslot (Ring.sl 6 (i 0).val) := by rw [h]; rfl
theorem grp_first (h : (i 0).val = 0) : grp 0 = grp (Ring.bk 36 (i 0).val) := by rw [h]; rfl

abbrev R4 : Rect S36x56 := Rect.unit (s := S36x56) ![0, 0] S36x56.size inb_S36x56_S36x56_0_0
abbrev R8 : Rect S1x256 := Rect.unit (s := S1x256) ![0, 0] S1x256.size inb_S1x256_S1x256_0_0
abbrev R11 : Rect S288x448 := Rect.unit (s := S288x448) ![0, 0] S288x448.size inb_S288x448_S288x448_0_0
abbrev R12 : Rect S256x128 := Rect.unit (s := S256x128) ![0, 0] S256x128.size inb_S256x128_S256x128_0_0

/-- The expanded factor the first point stores. -/
abbrev ckB (f4 : Buf (Elt F) (arg4.view.loc (c : Thread nD τ))) : Buf (Elt F) (ckM.view.loc (c : Thread nD τ)) :=
  ckM.view.writes (Elt F) ckM.view.junk [⟨R11, k0_pay49 (k0_pay47 (arg4.view.readAt (Elt F) R4.toLoadRect f4)) k0_pay48⟩]
/-- The pieces the eight trips write, per buffer. -/
abbrev pbF (h1 : k0_cond1 i = 1#1) (f1 : Buf (Elt F) (arg1.view.loc (c : Thread nD τ))) (f5 : Buf (Elt F) (arg5.view.loc (c : Thread nD τ)))
    (fk : Buf (Elt F) (ckM.view.loc (c : Thread nD τ))) (k : ℕ) :=
  pb_k0_t1 (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk k

theorem rest_first (h : (i 0).val = 0) (g1 g2 g3 g4 g5) :
    iprop(flightP c XA 1 1 g1 ∗ flightP c XA 2 2 g2 ∗ flightP c XA 3 3 g3 ∗ flightP c XA 4 4 g4 ∗ flightP c XA 5 5 g5) ⊢ restS c XA (i 0).val := by
  unfold restS
  rw [h, slotN_lt c XA (by omega), slotN_lt c XA (by omega), slotN_lt c XA (by omega), slotN_lt c XA (by omega), slotN_lt c XA (by omega)]
  iintro ⟨H1, H2, H3, H4, H5⟩
  isplitl [H1]; · iexists g1; iexact H1
  isplitl [H2]; · iexists g2; iexact H2
  isplitl [H3]; · iexists g3; iexact H3
  isplitl [H4]; · iexists g4; iexact H4
  iexists g5; iexact H5

attribute [local sl_canon] csm_first rslot_first grp_first in
set_option maxRecDepth 16384 in
theorem stepZero (h0 : (i 0).val = 0) (h1 : k0_cond1 i = 1#1) (f1 f3 f4 f5 f6 f7 f8 f10 f11 f12 W) (g0 g1 g2 g3 g4 g5)
    (P) (hP : P = pbF c i arg1 harg1 arg3 harg3 arg4 harg4 arg5 harg5 arg6 harg6 arg7 harg7 arg8 harg8 h1 f1 f5 (ckB c arg4 f4) (Scf.trips k0_t1_loop.lb k0_t1_loop.ub k0_t1_loop.st))
    (Q : PUnit → sProp 𝕄) :
    iprop((own c arg1 f1 ∗ own c arg3 f3 ∗ own c arg4 f4 ∗ own c arg5 f5 ∗ own c arg6 f6 ∗ own c arg7 f7 ∗ own c arg8 f8
        ∗ (own c uM f10 ∗ own c ckM f11 ∗ own c xsbM f12)
        ∗ (homeP c XA (Ring.bk 36 (i 0).val) ∗ homeP c XA 1 ∗ homeP c XA 2 ∗ homeP c XA 3 ∗ homeP c XA 4 ∗ homeP c XA 5 ∗ homeP c XA (Ring.bk 36 ((i 0).val + 6)))
        ∗ (slotP c (Ring.sl 6 (i 0).val) g0 ∗ slotP c 1 g1 ∗ slotP c 2 g2 ∗ slotP c 3 g3 ∗ slotP c 4 g4 ∗ slotP c 5 g5)
        ∗ (cellP c (Ring.sl 6 (i 0).val) ∗ cellP c 1 ∗ cellP c 2 ∗ cellP c 3 ∗ cellP c 4 ∗ cellP c 5) ∗ owes (c : Thread nD τ) 0 W)
      ∗ ((own c arg1 f1 ∗ own c arg3 f3 ∗ own c arg4 f4 ∗ own c arg5 f5
          ∗ own c arg6 (arg6.view.writes (Elt F) f6 [⟨R6, yPay c XA i arg3 arg7 f3 (arg7.view.writes (Elt F) f7 P.1) (uM.view.writes (Elt F) f10 P.2.1) (xsbM.view.writes (Elt F) f12 P.2.2)⟩])
          ∗ own c arg7 (arg7.view.writes (Elt F) f7 P.1)
          ∗ own c arg8 (arg8.view.writes (Elt F) f8 [⟨R8, k0_pay53 (xsbM.view.readAt (Elt F) R12.toLoadRect (xsbM.view.writes (Elt F) f12 P.2.2))⟩])
          ∗ (own c uM (uM.view.writes (Elt F) f10 P.2.1) ∗ own c ckM (ckB c arg4 f4) ∗ own c xsbM (xsbM.view.writes (Elt F) f12 P.2.2))
          ∗ homeP c XA (Ring.bk 36 (i 0).val) ∗ (∃ f, flightP c XA (Ring.sl 6 (i 0).val) (Ring.bk 36 ((i 0).val + 6)) f) ∗ restS c XA (i 0).val
          ∗ ∃ W, owes (c : Thread nD τ) 0 W) -∗ Q ⟨⟩))
      ⊢ wp frame (wpE (defs₀ (F := F)) 𝒱₀ (c : Thread nD τ) none) Set.univ
        (bodyG i arg1 harg1 arg3 harg3 arg4 harg4 arg5 harg5 arg6 harg6 arg7 harg7 arg8 harg8) Q := by
  subst hP
  have h2 : k0_cond2 i = 1#1 := (cond2_iff i).2 (by omega)
  have h6 : (i 0).val + 6 < 36 := by omega
  iintro ⟨⟨H1, H3, H4, H5, H6, H7, H8, ⟨H10, H11, H12⟩, ⟨Hh0, Hh1, Hh2, Hh3, Hh4, Hh5, Hh6⟩, ⟨Hs0, Hs1, Hs2, Hs3, Hs4, Hs5⟩, ⟨Hc0, Hc1, Hc2, Hc3, Hc4, Hc5⟩, HW⟩, Hk⟩
  sl_exec
  sl_step
  iapply Hk
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H10 H11 H12]
  · isplitl [H10]; · iexact H10
    isplitl [H11]; · iexact H11
    iexact H12
  isplitl [Hh0]; · iexact Hh0
  isplitl [Hc0]
  · iexists ((rslot (Ring.sl 6 (i 0).val)).view.writes (Elt F) (rslot (Ring.sl 6 (i 0).val)).view.junk [⟨Rect.whole S512x7168, payload c XA (Ring.bk 36 (i 0).val)⟩])
    irw [flightP_after]
    iexact Hc0
  isplitr [HW]
  · iapply (rest_first c XA i h0 g1 g2 g3 g4 g5)
    isplitl [Hc1]; · iexact Hc1
    isplitl [Hc2]; · iexact Hc2
    isplitl [Hc3]; · iexact Hc3
    isplitl [Hc4]; · iexact Hc4
    iexact Hc5
  iexists _; iexact HW

end First

end Cert.Proof.KernelIdeal

end
-- ==== Proof.KernelIdealLoop.lean ====
/-
  What the eight trips of the first point leave in the kernel's buffers, as functions of the tokens: trip `k` quantises
  tokens 32k to 32k+31.  `codesF` are the fp8 codes, `xsbF` the token scales (128 copies per token), `uF` the halved
  rank-one term, each read at an index from the payload of the one trip (and quarter trip) that writes it.
-/
module

public import proofs.«01_k».proof.Proof.KernelIdealStart
public import Idealize.ShloMosaic.Lib.Pointwise.Index
public import Idealize.ShloMosaic.Lib.WritesUnit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

/-- Trip `k`'s 32 tokens. -/
def xgF (x : S256x7168.Idx → Elt F .bf16) (k : Fin 8) : FVec F S32x7168 .bf16 :=
  fun j => x (ix2 ⟨32 * k.val + (j 0).val, by have := k.isLt; have : (j 0).val < 32 := (j 0).isLt; omega⟩ (j 1))

/-- A trip's codes. -/
def codesPay (xg : FVec F S32x7168 .bf16) : FVec F S32x7168 .fp8e4m3 := k0_pay5 (k0_pay2 xg) (k0_pay4 xg) 0#32

/-- A trip's product of every 128-wide piece of its tokens with `D`. -/
def midF (xg : FVec F S32x7168 .bf16) (d : FVec F S512x128 .bf16) : FVec F S56x32x512 .f32 :=
  (fun v => k0_pay44 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d) (k0_pay1 xg)
/-- A trip's four quarters of the rank-one term. -/
def uPay0 (xg : FVec F S32x7168 .bf16) (d : FVec F S512x128 .bf16) (ck : FVec F S288x448 .bf16) : FVec F S36x8x512 .f32 :=
  (fun v => k0_pay45 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d ck) (k0_pay1 xg)
def uPay1 (xg : FVec F S32x7168 .bf16) (d : FVec F S512x128 .bf16) (ck : FVec F S288x448 .bf16) : FVec F S36x8x512 .f32 :=
  k0_pay50 ((fun v => k0_pay46 v (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) d ck) (k0_pay1 xg))
def uPay2 (xg : FVec F S32x7168 .bf16) (d : FVec F S512x128 .bf16) (ck : FVec F S288x448 .bf16) : FVec F S36x8x512 .f32 :=
  k0_pay51 (midF xg d) ck
def uPay3 (xg : FVec F S32x7168 .bf16) (d : FVec F S512x128 .bf16) (ck : FVec F S288x448 .bf16) : FVec F S36x8x512 .f32 :=
  k0_pay52 (midF xg d) ck
def uPay (r : Fin 4) (xg : FVec F S32x7168 .bf16) (d : FVec F S512x128 .bf16) (ck : FVec F S288x448 .bf16) : FVec F S36x8x512 .f32 :=
  match r with | 0 => uPay0 xg d ck | 1 => uPay1 xg d ck | 2 => uPay2 xg d ck | 3 => uPay3 xg d ck

def row8 (n : Fin 256) : Fin 8 := ⟨n.val / 32, by omega⟩
def row32 (n : Fin 256) : Fin 32 := ⟨n.val % 32, by omega⟩
def row4 (n : Fin 256) : Fin 4 := ⟨n.val % 32 / 8, by omega⟩
def rowS (n : Fin 256) : Fin 8 := ⟨n.val % 8, by omega⟩

/-- The codes of all tokens. -/
def codesF (x : S256x7168.Idx → Elt F .bf16) : S256x7168.Idx → Elt F .fp8e4m3 :=
  fun y => codesPay (xgF x (row8 (y 0))) (ix2 (row32 (y 0)) (y 1))
/-- The scales of all tokens, 128 copies each. -/
def xsbF (x : S256x7168.Idx → Elt F .bf16) : S256x128.Idx → Elt F .f32 :=
  fun y => k0_pay3 (xgF x (row8 (y 0))) (ix2 (row32 (y 0)) (y 1))
/-- The halved rank-one term of all tokens. -/
def uF (x : S256x7168.Idx → Elt F .bf16) (d : FVec F S512x128 .bf16) (ck : FVec F S288x448 .bf16) : S36x256x512.Idx → Elt F .f32 :=
  fun y => uPay (row4 (y 1)) (xgF x (row8 (y 1))) d ck (ix3 (y 0) (rowS (y 1)) (y 2))

section Loop

variable (c : Dev nD) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)
  (h1 : k0_cond1 i = 1#1) (f1 : Buf (Elt F) (arg1.view.loc (c : Thread nD τ))) (f5 : Buf (Elt F) (arg5.view.loc (c : Thread nD τ)))
  (fk : Buf (Elt F) (ckM.view.loc (c : Thread nD τ)))

theorem trips8 : k0_t1_loop.trips = 8 := by decide

/-- One trip's pieces. -/
abbrev tripF (k : Fin k0_t1_loop.trips) :=
  tripL_k0_t1 (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk k

theorem xg_eq (k : Fin k0_t1_loop.trips) :
    arg1.view.readAt (Elt F) (Rect.unit (s := S256x7168) (k0_off3 k) S32x7168.size (k0_off3_inb i k h1)).toLoadRect f1
      = xgF (arg1.view.read (Elt F) f1) ⟨k.val, k.isLt⟩ := by
  funext j
  rw [View.readAt_apply]
  unfold xgF
  congr 1
  funext a
  apply Fin.ext
  have e := k0_off3_eq k
  match a with
  | ⟨0, _⟩ =>
    show k0_off3 k 0 + 1 * (j 0).val = 32 * k.val + (j 0).val
    have e0 : k0_off3 k 0 = 32 * k.val := congrFun e 0
    omega
  | ⟨1, _⟩ =>
    show k0_off3 k 1 + 1 * (j 1).val = (j 1).val
    have e1 : k0_off3 k 1 = 0 := congrFun e 1
    omega

theorem whole5_eq : arg5.view.readAt (Elt F) (Rect.unit (s := S512x128) ![0, 0] S512x128.size inb_S512x128_S512x128_0_0).toLoadRect f5 = arg5.view.read (Elt F) f5 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem whole11_eq : ckM.view.readAt (Elt F) (Rect.unit (s := S288x448) ![0, 0] S288x448.size inb_S288x448_S288x448_0_0).toLoadRect fk = ckM.view.read (Elt F) fk := by
  funext j; rw [View.readAt_apply]; congr 1; funext a; apply Fin.ext
  match a with
  | ⟨0, _⟩ => show 0 + 1 * (j 0).val = (j 0).val; omega
  | ⟨1, _⟩ => show 0 + 1 * (j 1).val = (j 1).val; omega

abbrev TR (k : Fin k0_t1_loop.trips) := tripF c i arg1 harg1 arg3 harg3 arg4 harg4 arg5 harg5 arg6 harg6 arg7 harg7 arg8 harg8 h1 f1 f5 fk k
abbrev xk (k : Fin k0_t1_loop.trips) : FVec F S32x7168 .bf16 := xgF (arg1.view.read (Elt F) f1) ⟨k.val, k.isLt⟩

theorem trip7 (k : Fin k0_t1_loop.trips) :
    (TR c i arg1 harg1 arg3 harg3 arg4 harg4 arg5 harg5 arg6 harg6 arg7 harg7 arg8 harg8 h1 f1 f5 fk k).1
      = [⟨Rect.unit (s := S256x7168) (k0_off3 k) S32x7168.size (k0_off3_inb i k h1), codesPay (xk c arg1 f1 k)⟩] := by
  unfold xk; rw [← xg_eq c i arg1 h1 f1 k]
  unfold TR tripF tripL_k0_t1 trip_k0_t1; rfl
theorem trip12 (k : Fin k0_t1_loop.trips) :
    (TR c i arg1 harg1 arg3 harg3 arg4 harg4 arg5 harg5 arg6 harg6 arg7 harg7 arg8 harg8 h1 f1 f5 fk k).2.2
      = [⟨Rect.unit (s := S256x128) (k0_off4 k) S32x128.size (k0_off4_inb i k h1), k0_pay3 (xk c arg1 f1 k)⟩] := by
  unfold xk; rw [← xg_eq c i arg1 h1 f1 k]
  unfold TR tripF tripL_k0_t1 trip_k0_t1; rfl
theorem trip10 (k : Fin k0_t1_loop.trips) :
    (TR c i arg1 harg1 arg3 harg3 arg4 harg4 arg5 harg5 arg6 harg6 arg7 harg7 arg8 harg8 h1 f1 f5 fk k).2.1
      = [⟨Rect.unit (s := S36x256x512) (k0_off5 k 24#32) S36x8x512.size (k0_off5_inb i k h1 3), uPay3 (xk c arg1 f1 k) (arg5.view.read (Elt F) f5) (ckM.view.read (Elt F) fk)⟩,
         ⟨Rect.unit (s := S36x256x512) (k0_off5 k 16#32) S36x8x512.size (k0_off5_inb i k h1 2), uPay2 (xk c arg1 f1 k) (arg5.view.read (Elt F) f5) (ckM.view.read (Elt F) fk)⟩,
         ⟨Rect.unit (s := S36x256x512) (k0_off5 k 8#32) S36x8x512.size (k0_off5_inb i k h1 1), uPay1 (xk c arg1 f1 k) (arg5.view.read (Elt F) f5) (ckM.view.read (Elt F) fk)⟩,
         ⟨Rect.unit (s := S36x256x512) (k0_off5 k 0#32) S36x8x512.size (k0_off5_inb i k h1 0), uPay0 (xk c arg1 f1 k) (arg5.view.read (Elt F) f5) (ckM.view.read (Elt F) fk)⟩] := by
  unfold xk; rw [← xg_eq c i arg1 h1 f1 k, ← whole5_eq c arg5 f5, ← whole11_eq c fk]
  unfold TR tripF tripL_k0_t1 trip_k0_t1; rfl

/-- The pieces of the trips before `k`. -/
abbrev PB (k : ℕ) := pbF c i arg1 harg1 arg3 harg3 arg4 harg4 arg5 harg5 arg6 harg6 arg7 harg7 arg8 harg8 h1 f1 f5 fk k
theorem PB_zero : PB c i arg1 harg1 arg3 harg3 arg4 harg4 arg5 harg5 arg6 harg6 arg7 harg7 arg8 harg8 h1 f1 f5 fk 0 = ([], [], []) := rfl
theorem PB_succ (k : ℕ) (hk : k < 8) : PB c i arg1 harg1 arg3 harg3 arg4 harg4 arg5 harg5 arg6 harg6 arg7 harg7 arg8 harg8 h1 f1 f5 fk (k + 1)
    = ((TR c i arg1 harg1 arg3 harg3 arg4 harg4 arg5 harg5 arg6 harg6 arg7 harg7 arg8 harg8 h1 f1 f5 fk ⟨k, hk⟩).1 ++ (PB c i arg1 harg1 arg3 harg3 arg4 harg4 arg5 harg5 arg6 harg6 arg7 harg7 arg8 harg8 h1 f1 f5 fk k).1, (TR c i arg1 harg1 arg3 harg3 arg4 harg4 arg5 harg5 arg6 harg6 arg7 harg7 arg8 harg8 h1 f1 f5 fk ⟨k, hk⟩).2.1 ++ (PB c i arg1 harg1 arg3 harg3 arg4 harg4 arg5 harg5 arg6 harg6 arg7 harg7 arg8 harg8 h1 f1 f5 fk k).2.1, (TR c i arg1 harg1 arg3 harg3 arg4 harg4 arg5 harg5 arg6 harg6 arg7 harg7 arg8 harg8 h1 f1 f5 fk ⟨k, hk⟩).2.2 ++ (PB c i arg1 harg1 arg3 harg3 arg4 harg4 arg5 harg5 arg6 harg6 arg7 harg7 arg8 harg8 h1 f1 f5 fk k).2.2) :=
  pb_k0_t1_succ (F := F) 𝒱₀ c none i arg1 harg1 wM (Memref.isWhole_whole _) arg3 harg3 arg4 harg4 arg5 harg5 arg6 harg6 arg7 harg7 arg8 harg8
    bufM (Memref.isWhole_whole _) uM (Memref.isWhole_whole _) ckM (Memref.isWhole_whole _) xsbM (Memref.isWhole_whole _) cc0_scratch4 h1 f1 f5 fk ⟨k, hk⟩

theorem read7 (f7) : ∀ k : ℕ, k ≤ 8 → ∀ (y0 : Fin 256) (y1 : Fin 7168), y0.val < 32 * k →
    arg7.view.read (Elt F) (arg7.view.writes (Elt F) f7 (PB c i arg1 harg1 arg3 harg3 arg4 harg4 arg5 harg5 arg6 harg6 arg7 harg7 arg8 harg8 h1 f1 f5 fk k).1) (ix2 y0 y1) = codesF (arg1.view.read (Elt F) f1) (ix2 y0 y1)
  | 0, _, y0, y1, h => absurd h (by omega)
  | k + 1, hk, y0, y1, h => by
    rw [PB_succ c i arg1 harg1 arg3 harg3 arg4 harg4 arg5 harg5 arg6 harg6 arg7 harg7 arg8 harg8 h1 f1 f5 fk k (by omega)]
    show arg7.view.read (Elt F) (arg7.view.writes (Elt F) f7 ((TR c i arg1 harg1 arg3 harg3 arg4 harg4 arg5 harg5 arg6 harg6 arg7 harg7 arg8 harg8 h1 f1 f5 fk ⟨k, (show k < 8 by omega)⟩).1 ++ (PB c i arg1 harg1 arg3 harg3 arg4 harg4 arg5 harg5 arg6 harg6 arg7 harg7 arg8 harg8 h1 f1 f5 fk k).1)) (ix2 y0 y1) = _
    rw [trip7, List.singleton_append]
    have E : k0_off3 ⟨k, (show k < 8 by omega)⟩ = ![32 * k, 0] := k0_off3_eq _
    by_cases hy : y0.val < 32 * k
    · refine (View.read_writes_cons_unit_of_not_mem arg7.view f7 _ _ _ (ix2 y0 y1) E (0 : Fin 2) (.inl hy)).trans ?_
      exact read7 f7 k (by omega) y0 y1 hy
    · have hr : row8 y0 = ⟨k, by omega⟩ := Fin.ext (by show y0.val / 32 = k; omega)
      refine (View.read_writes_cons_unit_of_mem arg7.view f7 _ _ _ (ix2 y0 y1) (ix2 (row32 y0) y1) E (fun a => by
        match a with
        | ⟨0, _⟩ => show y0.val = 32 * k + y0.val % 32; omega
        | ⟨1, _⟩ => show y1.val = 0 + y1.val; omega)).trans ?_
      unfold codesF
      rw [ix2_0, ix2_1, hr]

theorem read12 (f12) : ∀ k : ℕ, k ≤ 8 → ∀ (y0 : Fin 256) (y1 : Fin 128), y0.val < 32 * k →
    xsbM.view.read (Elt F) (xsbM.view.writes (Elt F) f12 (PB c i arg1 harg1 arg3 harg3 arg4 harg4 arg5 harg5 arg6 harg6 arg7 harg7 arg8 harg8 h1 f1 f5 fk k).2.2) (ix2 y0 y1) = xsbF (arg1.view.read (Elt F) f1) (ix2 y0 y1)
  | 0, _, y0, y1, h => absurd h (by omega)
  | k + 1, hk, y0, y1, h => by
    rw [PB_succ c i arg1 harg1 arg3 harg3 arg4 harg4 arg5 harg5 arg6 harg6 arg7 harg7 arg8 harg8 h1 f1 f5 fk k (by omega)]
    show xsbM.view.read (Elt F) (xsbM.view.writes (Elt F) f12 ((TR c i arg1 harg1 arg3 harg3 arg4 harg4 arg5 harg5 arg6 harg6 arg7 harg7 arg8 harg8 h1 f1 f5 fk ⟨k, (show k < 8 by omega)⟩).2.2 ++ (PB c i arg1 harg1 arg3 harg3 arg4 harg4 arg5 harg5 arg6 harg6 arg7 harg7 arg8 harg8 h1 f1 f5 fk k).2.2)) (ix2 y0 y1) = _
    rw [trip12, List.singleton_append]
    have E : k0_off4 ⟨k, (show k < 8 by omega)⟩ = ![32 * k, 0] := k0_off4_eq _
    by_cases hy : y0.val < 32 * k
    · refine (View.read_writes_cons_unit_of_not_mem xsbM.view f12 _ _ _ (ix2 y0 y1) E (0 : Fin 2) (.inl hy)).trans ?_
      exact read12 f12 k (by omega) y0 y1 hy
    · have hr : row8 y0 = ⟨k, by omega⟩ := Fin.ext (by show y0.val / 32 = k; omega)
      refine (View.read_writes_cons_unit_of_mem xsbM.view f12 _ _ _ (ix2 y0 y1) (ix2 (row32 y0) y1) E (fun a => by
        match a with
        | ⟨0, _⟩ => show y0.val = 32 * k + y0.val % 32; omega
        | ⟨1, _⟩ => show y1.val = 0 + y1.val; omega)).trans ?_
      unfold xsbF
      rw [ix2_0, ix2_1, hr]

/-- Off a quarter's rows, the piece is passed over. -/
theorem skip10 {off : Fin 3 → ℕ} (o : ℕ) (e : off = ![0, o, 0]) (hb) (w) (L) (f10) (y0 : Fin 36) (y1 : Fin 256) (y2 : Fin 512) (h : y1.val < o ∨ o + 8 ≤ y1.val) :
    uM.view.read (Elt F) (uM.view.writes (Elt F) f10 (⟨Rect.unit (s := S36x256x512) off S36x8x512.size hb, w⟩ :: L)) (ix3 y0 y1 y2)
      = uM.view.read (Elt F) (uM.view.writes (Elt F) f10 L) (ix3 y0 y1 y2) :=
  View.read_writes_cons_unit_of_not_mem uM.view f10 _ _ _ _ e (1 : Fin 3) h
/-- On a quarter's rows, its payload is read. -/
theorem hit10 {off : Fin 3 → ℕ} (o : ℕ) (e : off = ![0, o, 0]) (hb) (w) (L) (f10) (y0 : Fin 36) (y1 : Fin 256) (y2 : Fin 512) (x : Fin 8) (h : y1.val = o + x.val) :
    uM.view.read (Elt F) (uM.view.writes (Elt F) f10 (⟨Rect.unit (s := S36x256x512) off S36x8x512.size hb, w⟩ :: L)) (ix3 y0 y1 y2)
      = w (ix3 y0 x y2) :=
  View.read_writes_cons_unit_of_mem uM.view f10 _ _ _ _ (ix3 y0 x y2) e (fun a => by
    match a with
    | ⟨0, _⟩ => show y0.val = 0 + y0.val; omega
    | ⟨1, _⟩ => exact h
    | ⟨2, _⟩ => show y2.val = 0 + y2.val; omega)

theorem read10 (f10) : ∀ k : ℕ, k ≤ 8 → ∀ (y0 : Fin 36) (y1 : Fin 256) (y2 : Fin 512), y1.val < 32 * k →
    uM.view.read (Elt F) (uM.view.writes (Elt F) f10 (PB c i arg1 harg1 arg3 harg3 arg4 harg4 arg5 harg5 arg6 harg6 arg7 harg7 arg8 harg8 h1 f1 f5 fk k).2.1) (ix3 y0 y1 y2)
      = uF (arg1.view.read (Elt F) f1) (arg5.view.read (Elt F) f5) (ckM.view.read (Elt F) fk) (ix3 y0 y1 y2)
  | 0, _, y0, y1, y2, h => absurd h (by omega)
  | k + 1, hk, y0, y1, y2, h => by
    rw [PB_succ c i arg1 harg1 arg3 harg3 arg4 harg4 arg5 harg5 arg6 harg6 arg7 harg7 arg8 harg8 h1 f1 f5 fk k (by omega)]
    show uM.view.read (Elt F) (uM.view.writes (Elt F) f10 ((TR c i arg1 harg1 arg3 harg3 arg4 harg4 arg5 harg5 arg6 harg6 arg7 harg7 arg8 harg8 h1 f1 f5 fk ⟨k, (show k < 8 by omega)⟩).2.1 ++ (PB c i arg1 harg1 arg3 harg3 arg4 harg4 arg5 harg5 arg6 harg6 arg7 harg7 arg8 harg8 h1 f1 f5 fk k).2.1)) (ix3 y0 y1 y2) = _
    rw [trip10]
    show uM.view.read (Elt F) (uM.view.writes (Elt F) f10 (_ :: _ :: _ :: _ :: (PB c i arg1 harg1 arg3 harg3 arg4 harg4 arg5 harg5 arg6 harg6 arg7 harg7 arg8 harg8 h1 f1 f5 fk k).2.1)) (ix3 y0 y1 y2) = _
    have E3 : k0_off5 ⟨k, (show k < 8 by omega)⟩ 24#32 = ![0, 32 * k + 24, 0] := k0_off5_eq _ 3
    have E2 : k0_off5 ⟨k, (show k < 8 by omega)⟩ 16#32 = ![0, 32 * k + 16, 0] := k0_off5_eq _ 2
    have E1 : k0_off5 ⟨k, (show k < 8 by omega)⟩ 8#32 = ![0, 32 * k + 8, 0] := k0_off5_eq _ 1
    have E0 : k0_off5 ⟨k, (show k < 8 by omega)⟩ 0#32 = ![0, 32 * k, 0] := k0_off5_eq _ 0
    by_cases hy : y1.val < 32 * k
    · refine (skip10 _ E3 _ _ _ _ y0 y1 y2 (by omega)).trans ?_
      refine (skip10 _ E2 _ _ _ _ y0 y1 y2 (by omega)).trans ?_
      refine (skip10 _ E1 _ _ _ _ y0 y1 y2 (by omega)).trans ?_
      refine (skip10 _ E0 _ _ _ _ y0 y1 y2 (by omega)).trans ?_
      exact read10 f10 k (by omega) y0 y1 y2 hy
    have hr : row8 y1 = ⟨k, by omega⟩ := Fin.ext (by show y1.val / 32 = k; omega)
    unfold uF
    rw [ix3_0, ix3_1, ix3_2, hr]
    by_cases h3 : 32 * k + 24 ≤ y1.val
    · rw [show row4 y1 = 3 from Fin.ext (by show y1.val % 32 / 8 = 3; omega)]
      exact hit10 _ E3 _ _ _ _ y0 y1 y2 (rowS y1) (by show y1.val = 32 * k + 24 + y1.val % 8; omega)
    refine (skip10 _ E3 _ _ _ _ y0 y1 y2 (by omega)).trans ?_
    by_cases h2 : 32 * k + 16 ≤ y1.val
    · rw [show row4 y1 = 2 from Fin.ext (by show y1.val % 32 / 8 = 2; omega)]
      exact hit10 _ E2 _ _ _ _ y0 y1 y2 (rowS y1) (by show y1.val = 32 * k + 16 + y1.val % 8; omega)
    refine (skip10 _ E2 _ _ _ _ y0 y1 y2 (by omega)).trans ?_
    by_cases h1' : 32 * k + 8 ≤ y1.val
    · rw [show row4 y1 = 1 from Fin.ext (by show y1.val % 32 / 8 = 1; omega)]
      exact hit10 _ E1 _ _ _ _ y0 y1 y2 (rowS y1) (by show y1.val = 32 * k + 8 + y1.val % 8; omega)
    refine (skip10 _ E1 _ _ _ _ y0 y1 y2 (by omega)).trans ?_
    rw [show row4 y1 = 0 from Fin.ext (by show y1.val % 32 / 8 = 0; omega)]
    exact hit10 _ E0 _ _ _ _ y0 y1 y2 (rowS y1) (by show y1.val = 32 * k + y1.val % 8; omega)

/-- After the loop: the codes, the scales, the rank-one term, whatever the buffers held before. -/
theorem after7 (f7) : arg7.view.read (Elt F) (arg7.view.writes (Elt F) f7 (PB c i arg1 harg1 arg3 harg3 arg4 harg4 arg5 harg5 arg6 harg6 arg7 harg7 arg8 harg8 h1 f1 f5 fk (Scf.trips k0_t1_loop.lb k0_t1_loop.ub k0_t1_loop.st)).1)
    = codesF (arg1.view.read (Elt F) f1) := by
  funext y; rw [eq_ix2 y, show Scf.trips k0_t1_loop.lb k0_t1_loop.ub k0_t1_loop.st = 8 from trips8]
  exact read7 c i arg1 harg1 arg3 harg3 arg4 harg4 arg5 harg5 arg6 harg6 arg7 harg7 arg8 harg8 h1 f1 f5 fk f7 8 (by omega) _ _ (y 0).isLt
theorem after12 (f12) : xsbM.view.read (Elt F) (xsbM.view.writes (Elt F) f12 (PB c i arg1 harg1 arg3 harg3 arg4 harg4 arg5 harg5 arg6 harg6 arg7 harg7 arg8 harg8 h1 f1 f5 fk (Scf.trips k0_t1_loop.lb k0_t1_loop.ub k0_t1_loop.st)).2.2)
    = xsbF (arg1.view.read (Elt F) f1) := by
  funext y; rw [eq_ix2 y, show Scf.trips k0_t1_loop.lb k0_t1_loop.ub k0_t1_loop.st = 8 from trips8]
  exact read12 c i arg1 harg1 arg3 harg3 arg4 harg4 arg5 harg5 arg6 harg6 arg7 harg7 arg8 harg8 h1 f1 f5 fk f12 8 (by omega) _ _ (y 0).isLt
theorem after10 (f10) : uM.view.read (Elt F) (uM.view.writes (Elt F) f10 (PB c i arg1 harg1 arg3 harg3 arg4 harg4 arg5 harg5 arg6 harg6 arg7 harg7 arg8 harg8 h1 f1 f5 fk (Scf.trips k0_t1_loop.lb k0_t1_loop.ub k0_t1_loop.st)).2.1)
    = uF (arg1.view.read (Elt F) f1) (arg5.view.read (Elt F) f5) (ckM.view.read (Elt F) fk) := by
  funext y; rw [eq_ix3 y, show Scf.trips k0_t1_loop.lb k0_t1_loop.ub k0_t1_loop.st = 8 from trips8]
  exact read10 c i arg1 harg1 arg3 harg3 arg4 harg4 arg5 harg5 arg6 harg6 arg7 harg7 arg8 harg8 h1 f1 f5 fk f10 8 (by omega) _ _ _ (y 1).isLt

end Loop

end Cert.Proof.KernelIdeal

end
-- ==== Proof.KernelIdealBlock.lean ====
/-
  What the body stores at a point, as a function of the values held: the codes, the point's block of 512 rows of the
  weight, the token scales, the weight scales and the point's block of the rank-one term.
-/
module

public import proofs.«01_k».proof.Proof.KernelIdealLoop

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

/-! ## The values a point reads -/

/-- Rows 512b to 512b+511 of the weight. -/
def wblk (w : S18432x7168.Idx → Elt F .fp8e4m3) (b : Fin 36) : S1x512x7168.Idx → Elt F .fp8e4m3 :=
  fun j => w (ix2 ⟨512 * b.val + (j 1).val, by have := b.isLt; have : (j 1).val < 512 := (j 1).isLt; omega⟩ (j 2))
/-- The first of the 128 copies of each token's scale. -/
def xcol (s : S256x128.Idx → Elt F .f32) : S256x1.Idx → Elt F .f32 :=
  fun j => s (ix2 (j 0) ⟨0, by omega⟩)
/-- Block `b` of the rank-one term. -/
def ublk (u : S36x256x512.Idx → Elt F .f32) (b : Fin 36) : S1x256x512.Idx → Elt F .f32 :=
  fun j => u (ix3 b (j 1) (j 2))
/-- The factor `C` expanded over eight tokens. -/
def ckF (C : S36x56.Idx → Elt F .bf16) : FVec F S288x448 .bf16 := k0_pay49 (k0_pay47 C) k0_pay48
/-- Block `b` of the result. -/
def yF (x : S256x7168.Idx → Elt F .bf16) (w : S18432x7168.Idx → Elt F .fp8e4m3) (ws : S1x1x512.Idx → Elt F .f32)
    (C : S36x56.Idx → Elt F .bf16) (d : S512x128.Idx → Elt F .bf16) (b : Fin 36) : FVec F S256x512 .bf16 :=
  k0_pay54 (codesF x) (wblk w b) (xcol (xsbF x)) ws (ublk (uF x d (ckF C)) b)
/-- The row of token scales. -/
def xsF (x : S256x7168.Idx → Elt F .bf16) : FVec F S1x256 .f32 := k0_pay53 (xsbF x)

section Block

variable (c : Dev nD) (XA : Buf (Elt F) (wM.view.loc (c : Thread nD τ))) (i : grid0.Coords)
  (arg1 : Memref sig .tc .vmem S256x7168 .bf16) (harg1 : arg1.IsWhole)
  (arg3 : Memref sig .tc .vmem S1x1x512 .f32) (harg3 : arg3.IsWhole)
  (arg4 : Memref sig .tc .vmem S36x56 .bf16) (harg4 : arg4.IsWhole)
  (arg5 : Memref sig .tc .vmem S512x128 .bf16) (harg5 : arg5.IsWhole)
  (arg6 : Memref sig .tc .vmem S256x512 .bf16) (harg6 : arg6.IsWhole)
  (arg7 : Memref sig .tc .vmem S256x7168 .fp8e4m3) (harg7 : arg7.IsWhole)
  (arg8 : Memref sig .tc .vmem S1x256 .f32) (harg8 : arg8.IsWhole)

/-! ## The loads -/

/-- Reading the slot's rectangle of the buffer is reading the slot. -/
theorem slot_read (f : bufM.view.ty.Contents (Elt F)) (j : S1x512x7168.Idx) :
    bufM.view.readAt (Elt F) (Rect.unit (s := S6x512x7168) (k0_off9 i) S1x512x7168.size (k0_off9_inb i)).toLoadRect f j
      = (rslot (Ring.sl 6 (i 0).val)).view.read (Elt F) f (ix2 (j 1) (j 2)) := by
  rw [View.readAt_apply]
  show _ = bufM.view.read (Elt F) f ((Rect.unit (s := S6x512x7168) (slotOff (Ring.sl 6 (i 0).val)) S1x512x7168.size (slotOff_inb _)).emb
    (Shape.reshapeEquiv squeezes_S1x512x7168_S512x7168.numel_eq (ix2 (j 1) (j 2))))
  refine congrArg (bufM.view.read (Elt F) f) ?_
  have e3 : (Shape.reshapeEquiv squeezes_S1x512x7168_S512x7168.numel_eq (ix2 (j 1) (j 2)) : S1x512x7168.Idx) = Fin.cons ⟨0, Nat.one_pos⟩ (ix2 (j 1) (j 2)) :=
    Shape.reshapeEquiv_cons_one _ _
  rw [e3]
  have h0 : (j 0).val = 0 := by have : (j 0).val < 1 := (j 0).isLt; omega
  funext a; apply Fin.ext
  match a with
  | ⟨0, _⟩ =>
    have e := congrFun (off9_eq i) 0
    show k0_off9 i 0 + 1 * (j 0).val = (Ring.sl 6 (i 0).val).val + 1 * 0
    rw [e, h0]; rfl
  | ⟨1, _⟩ =>
    have e := congrFun (off9_eq i) 1
    show k0_off9 i 1 + 1 * (j 1).val = 0 + 1 * (j 1).val
    rw [e]; rfl
  | ⟨2, _⟩ =>
    have e := congrFun (off9_eq i) 2
    show k0_off9 i 2 + 1 * (j 2).val = 0 + 1 * (j 2).val
    rw [e]; rfl

/-- A block's words, read at an index of the weight. -/
theorem payload_eq (j : S1x512x7168.Idx) :
    payload c XA (Ring.bk 36 (i 0).val) (ix2 (j 1) (j 2)) = wblk (wM.view.read (Elt F) XA) (i 0) j := by
  have hb : Ring.bk 36 (i 0).val = i 0 := Fin.ext (Nat.mod_eq_of_lt (i 0).isLt)
  show wM.view.read (Elt F) XA ((Rect.unit (s := S18432x7168) (grpOff (Ring.bk 36 (i 0).val)) S512x7168.size (grpOff_inb _)).emb (ix2 (j 1) (j 2))) = _
  unfold wblk
  refine congrArg (wM.view.read (Elt F) XA) ?_
  funext a; apply Fin.ext
  match a with
  | ⟨0, _⟩ => show 512 * (Ring.bk 36 (i 0).val).val + 1 * (j 1).val = 512 * (i 0).val + (j 1).val; rw [hb]; omega
  | ⟨1, _⟩ => show 0 + 1 * (j 2).val = (j 2).val; omega

/-- The slot the point reads holds the point's block. -/
theorem slot_load (g) :
    bufM.view.readAt (Elt F) (Rect.unit (s := S6x512x7168) (k0_off9 i) S1x512x7168.size (k0_off9_inb i)).toLoadRect
      (landed c XA (Ring.sl 6 (i 0).val) (Ring.bk 36 (i 0).val) g)
      = wblk (wM.view.read (Elt F) XA) (i 0) := by
  funext j
  exact (slot_read i _ j).trans ((congrFun (View.read_writes_whole (rslot (Ring.sl 6 (i 0).val)).view g (payload c XA (Ring.bk 36 (i 0).val))) _).trans (payload_eq c XA i j))

theorem load7 (f7) : arg7.view.readAt (Elt F) (R7).toLoadRect f7 = arg7.view.read (Elt F) f7 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load4 (f4) : arg4.view.readAt (Elt F) (R4).toLoadRect f4 = arg4.view.read (Elt F) f4 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load12 (f12) : xsbM.view.readAt (Elt F) (R12).toLoadRect f12 = xsbM.view.read (Elt F) f12 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
theorem load3 (f3) : arg3.view.readAt (Elt F) (Rect.unit (s := S1x1x512) ![0, 0, 0] S1x1x512.size inb_S1x1x512_S1x1x512_0_0_0).toLoadRect f3 = arg3.view.read (Elt F) f3 := by
  funext j; rw [View.readAt_apply]; congr 1; funext a; apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem load12c (f12) : xsbM.view.readAt (Elt F) (Rect.unit (s := S256x128) ![0, 0] S256x1.size inb_S256x128_S256x1_0_0).toLoadRect f12 = xcol (xsbM.view.read (Elt F) f12) := by
  funext j; rw [View.readAt_apply]; unfold xcol; congr 1; funext a; apply Fin.ext
  match a with
  | ⟨0, _⟩ => show 0 + 1 * (j 0).val = (j 0).val; omega
  | ⟨1, _⟩ => show 0 + 1 * (j 1).val = 0; have : (j 1).val < 1 := (j 1).isLt; omega
theorem load10 (f10) : uM.view.readAt (Elt F) (Rect.unit (s := S36x256x512) (k0_off10 i) S1x256x512.size (k0_off10_inb i)).toLoadRect f10 = ublk (uM.view.read (Elt F) f10) (i 0) := by
  funext j; rw [View.readAt_apply]; unfold ublk; congr 1; funext a; apply Fin.ext
  match a with
  | ⟨0, _⟩ =>
    have e : k0_off10 i 0 = (i 0).val := congrFun (off10_eq i) 0
    show k0_off10 i 0 + 1 * (j 0).val = (i 0).val
    have : (j 0).val < 1 := (j 0).isLt; omega
  | ⟨1, _⟩ =>
    have e : k0_off10 i 1 = 0 := congrFun (off10_eq i) 1
    show k0_off10 i 1 + 1 * (j 1).val = (j 1).val; omega
  | ⟨2, _⟩ =>
    have e : k0_off10 i 2 = 0 := congrFun (off10_eq i) 2
    show k0_off10 i 2 + 1 * (j 2).val = (j 2).val; omega

/-- What the point stores, from the values it holds. -/
theorem yPay_eq (f3 f7 f10 f12) (CO : S256x7168.Idx → Elt F .fp8e4m3) (U : S36x256x512.Idx → Elt F .f32) (S : S256x128.Idx → Elt F .f32)
    (h7 : arg7.view.read (Elt F) f7 = CO) (h10 : uM.view.read (Elt F) f10 = U) (h12 : xsbM.view.read (Elt F) f12 = S) :
    yPay c XA i arg3 arg7 f3 f7 f10 f12
      = k0_pay54 CO (wblk (wM.view.read (Elt F) XA) (i 0)) (xcol S) (arg3.view.read (Elt F) f3) (ublk U (i 0)) := by
  subst h7 h10 h12
  unfold yPay
  rw [slot_load c XA i _, load7, load12c, load3, load10]

/-! ## The stores -/

theorem store6 (f6) (v : S256x512.Idx → Elt F .bf16) : arg6.view.read (Elt F) (arg6.view.writes (Elt F) f6 [⟨R6, v⟩]) = v := by
  funext y
  exact View.read_writes_cons_unit_of_mem arg6.view f6 _ v [] y y (off' := ![0, 0]) rfl (fun a => by
    match a with
    | ⟨0, _⟩ => show (y 0).val = 0 + (y 0).val; omega
    | ⟨1, _⟩ => show (y 1).val = 0 + (y 1).val; omega)
theorem store8 (f8) (v : S1x256.Idx → Elt F .f32) : arg8.view.read (Elt F) (arg8.view.writes (Elt F) f8 [⟨R8, v⟩]) = v := by
  funext y
  exact View.read_writes_cons_unit_of_mem arg8.view f8 _ v [] y y (off' := ![0, 0]) rfl (fun a => by
    match a with
    | ⟨0, _⟩ => show (y 0).val = 0 + (y 0).val; omega
    | ⟨1, _⟩ => show (y 1).val = 0 + (y 1).val; omega)
theorem store11 (f11) (v : S288x448.Idx → Elt F .bf16) : ckM.view.read (Elt F) (ckM.view.writes (Elt F) f11 [⟨R11, v⟩]) = v := by
  funext y
  exact View.read_writes_cons_unit_of_mem ckM.view f11 _ v [] y y (off' := ![0, 0]) rfl (fun a => by
    match a with
    | ⟨0, _⟩ => show (y 0).val = 0 + (y 0).val; omega
    | ⟨1, _⟩ => show (y 1).val = 0 + (y 1).val; omega)

theorem ckB_read (f4) : ckM.view.read (Elt F) (ckB c arg4 f4) = ckF (arg4.view.read (Elt F) f4) := by
  unfold ckB ckF; rw [store11, load4]

end Block

end Cert.Proof.KernelIdeal

end
-- ==== Proof.KernelIdealRun.lean ====
/-
  The kernel's run: what is held between two points, the body at every point, and the launch.

  Between points the weight ring (`ringAt`) is held, and, after the first point, the rank-one term and the token scales
  that the first point left in scratch.  Every point stores its block of the result; the codes and the row of scales
  stay in their windows' buffers from the first point and are written back after the last.
-/
module

public import proofs.«01_k».proof.Proof.KernelIdealBlock
public import proofs.«01_k».proof.Proof.Gen.KernelIdeal.Frame
public import Idealize.ShloMosaic.Lib.Pipeline.TableIdle

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

set_option maxRecDepth 16384

/-! ## The kernel's own semaphores: the six slots' cells -/

abbrev osem : Fin 6 → SemLoc sig := fun s => .dma (csm s).sem
theorem ownSemFacts : Pipeline.OwnSemFacts spec0 osem := by decide

/-! ## Element sets: the weight's 36 blocks, the buffer's six slots -/

abbrev G36 (b : Fin 36) : Finset S18432x7168.Idx := (Rect.unit (s := S18432x7168) (grpOff b) S512x7168.size (grpOff_inb b)).set
abbrev S6s (s : Fin 6) : Finset S6x512x7168.Idx := (Rect.unit (s := S6x512x7168) (slotOff s) S1x512x7168.size (slotOff_inb s)).set

theorem grp_set (b : Fin 36) : (grp b : Memref sig .tc .hbm _ _).view.set = G36 b := View.set_slice_whole _ _
theorem rslot_set (s : Fin 6) : (rslot s : Memref sig .tc .vmem _ _).view.set = S6s s := (View.set_reshape _ _).trans (View.set_slice_whole _ _)

theorem mem_G36 (b : Fin 36) (y : S18432x7168.Idx) : y ∈ G36 b ↔ (y 0).val / 512 = b.val := by
  rw [Rect.mem_set_unit]
  have h0 : (y 0).val < 18432 := (y 0).isLt
  have h1 : (y 1).val < 7168 := (y 1).isLt
  constructor
  · intro H; have a0 : 512 * b.val ≤ (y 0).val ∧ (y 0).val < 512 * b.val + 512 := H 0; omega
  · intro H i; fin_cases i
    · show 512 * b.val ≤ (y 0).val ∧ (y 0).val < 512 * b.val + 512; omega
    · show 0 ≤ (y 1).val ∧ (y 1).val < 0 + 7168; omega
theorem mem_S6s (s : Fin 6) (y : S6x512x7168.Idx) : y ∈ S6s s ↔ (y 0).val = s.val := by
  rw [Rect.mem_set_unit]
  have h1 : (y 1).val < 512 := (y 1).isLt
  have h2 : (y 2).val < 7168 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 7168; omega
theorem G36_disjoint : ∀ b b' : Fin 36, b ≠ b' → Disjoint (G36 b) (G36 b') := by
  intro b b' hne; rw [Finset.disjoint_left]; intro y hy hy'; rw [mem_G36] at hy hy'; exact hne (Fin.ext (hy.symm.trans hy'))
theorem G36_cover : (Finset.univ : Finset (Fin 36)).biUnion G36 = Finset.univ := by
  ext y; simp only [Finset.mem_biUnion, Finset.mem_univ, true_and, iff_true]
  have h0 : (y 0).val < 18432 := (y 0).isLt
  exact ⟨⟨(y 0).val / 512, by omega⟩, by rw [mem_G36]⟩
theorem S6s_disjoint : ∀ s s' : Fin 6, s ≠ s' → Disjoint (S6s s) (S6s s') := by
  intro s s' hne; rw [Finset.disjoint_left]; intro y hy hy'; rw [mem_S6s] at hy hy'; exact hne (Fin.ext (hy.symm.trans hy'))
theorem S6s_cover : (Finset.univ : Finset (Fin 6)).biUnion S6s = Finset.univ := by
  ext y; simp only [Finset.mem_biUnion, Finset.mem_univ, true_and, iff_true]
  have h0 : (y 0).val < 6 := (y 0).isLt
  exact ⟨⟨(y 0).val, h0⟩, by rw [mem_S6s]⟩

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ

variable (m : (ℓ : Loc nD τ sig) → Buf (Elt F) ℓ) (ρ : Dev nD → PrngReg)

/-- The weight as the region finds it. -/
abbrev XW (c : Dev nD) : Buf (Elt F) (wM.view.loc (c : Thread nD τ)) := V m c main_arg1

/-- The weight whole is its blocks home; -/
theorem w_eq (c : Dev nD) :
    (((c : Thread nD τ).loc main_arg1) ↦{fullShare} V m c main_arg1 : sProp 𝕄) = bigSep Finset.univ (homeP c (XW m c)) := by
  rw [Ring.pointsTo_blocks (ℓ := (c : Thread nD τ).loc main_arg1) G36 G36_disjoint G36_cover]
  exact bigSep_congr fun b _ => by rw [← grp_set]; rfl
/-- at the body's entry, blocks 0 to 5 apart from the rest; -/
theorem homes_zero (c : Dev nD) (XA : Buf (Elt F) (wM.view.loc (c : Thread nD τ))) :
    bigSep Finset.univ (homeP c XA) = iprop(homeP c XA 0 ∗ homeP c XA 1 ∗ homeP c XA 2 ∗ homeP c XA 3 ∗ homeP c XA 4 ∗ homeP c XA 5 ∗ bigSep (Ring.homeSet 6 0) (homeP c XA)) := by
  have e : (Finset.univ : Finset (Fin 36)) = insert 0 (insert 1 (insert 2 (insert 3 (insert 4 (insert 5 (Ring.homeSet (NB := 36) 6 0)))))) := by
    ext b; simp only [Finset.mem_univ, Finset.mem_insert, Ring.mem_homeSet, true_iff, Fin.ext_iff]
    show b.val = 0 ∨ b.val = 1 ∨ b.val = 2 ∨ b.val = 3 ∨ b.val = 4 ∨ b.val = 5 ∨ _
    have := b.isLt; omega
  rw [e, bigSep_insert (by decide), bigSep_insert (by decide), bigSep_insert (by decide), bigSep_insert (by decide), bigSep_insert (by decide), bigSep_insert (by decide)]; rfl
/-- after the last point all blocks are home. -/
theorem homes_last (c : Dev nD) (XA : Buf (Elt F) (wM.view.loc (c : Thread nD τ))) :
    bigSep (Ring.homeSet 6 36) (homeP c XA) = bigSep Finset.univ (homeP c XA) := by
  have e : (Ring.homeSet (NB := 36) 6 36) = Finset.univ := by
    ext b; simp only [Finset.mem_univ, Ring.mem_homeSet, iff_true]; have := b.isLt; omega
  rw [e]

theorem slotP_eq (c : Dev nD) (s : Fin 6) (f) : slotP c s f = (((c : Thread nD τ).loc cc0_scratch0) ↦[S6s s]{fullShare} f : sProp 𝕄) :=
  congrArg (fun S => (_ ↦[S]{fullShare} f : sProp 𝕄)) (rslot_set s)
/-- The slots at some contents each. -/
abbrev slots6 (c : Dev nD) : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ ∃ f, slotP (F := F) c 5 f)
/-- The cells at zero. -/
abbrev cells6 (c : Dev nD) : sProp 𝕄 :=
  iprop(cellP (F := F) c 0 ∗ cellP (F := F) c 1 ∗ cellP (F := F) c 2 ∗ cellP (F := F) c 3 ∗ cellP (F := F) c 4 ∗ cellP (F := F) c 5)
/-- The buffer whole is its slots, and back. -/
theorem buf_split (c : Dev nD) :
    iprop(∃ f : Buf (Elt F) ((c : Thread nD τ).loc cc0_scratch0), ((c : Thread nD τ).loc cc0_scratch0) ↦{fullShare} f)
      ⊢ (slots6 c : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) S6s S6s_disjoint S6s_cover f).trans (bigSep_fin6 _))) $$ H
  icases H2 with ⟨H0, H1, H2, H3, H4, H5⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  isplitl [H3]
  · iexists f; iapply (entails_of_eq (slotP_eq c 3 f).symm); iexact H3
  isplitl [H4]
  · iexists f; iapply (entails_of_eq (slotP_eq c 4 f).symm); iexact H4
  · iexists f; iapply (entails_of_eq (slotP_eq c 5 f).symm); iexact H5
theorem buf_join (c : Dev nD) :
    (slots6 c : sProp 𝕄)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩, ⟨%f4, H4⟩, ⟨%f5, H5⟩⟩
  iapply (Ring.pointsTo_blocks_join_exists (ℓ := (c : Thread nD τ).loc cc0_scratch0) S6s S6s_disjoint S6s_cover f0)
  irw [bigSep_fin6]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  isplitl [H3]
  · iexists f3; iapply (entails_of_eq (slotP_eq c 3 f3)); iexact H3
  isplitl [H4]
  · iexists f4; iapply (entails_of_eq (slotP_eq c 4 f4)); iexact H4
  · iexists f5; iapply (entails_of_eq (slotP_eq c 5 f5)); iexact H5

/-- The kernel's own cells at zero are the slots' cells. -/
theorem ownSems0_eq (c : Dev nD) : (Pipeline.ownSems0 (Ix := Unit) (Name := ℕ) (U := UU nD τ) (Lvl := ℕ) (Val := Elt F) (τ := τ) osem c : sProp 𝕄)
    = cells6 c := by
  unfold Pipeline.ownSems0; rw [bigSep_fin6]

/-- A scratch buffer whole, as the body owns it. -/
theorem own_whole (c : Dev nD) (b : Ref sig .tc) (f : Buf (Elt F) ((c : Thread nD τ).loc b)) :
    (((c : Thread nD τ).loc b) ↦{fullShare} f : sProp 𝕄) = own c (Memref.whole b) f := by
  show _ = (((c : Thread nD τ).loc b) ↦[(Memref.whole b).view.set]{fullShare} f : sProp 𝕄)
  rw [show (Memref.whole b).view.set = Finset.univ from View.set_whole _]

end Cert.Proof.KernelIdeal

end
-- ==== Proof.KernelIdealLaunch.lean ====
/-
  The launch of the kernel: the region's proof data, the body at every point against it, the run of the whole program.
-/
module

public import proofs.«01_k».proof.Proof.KernelIdealRun

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

set_option maxRecDepth 16384

variable (m : (ℓ : Loc nD τ sig) → Buf (Elt F) ℓ) (ρ : Dev nD → PrngReg)

/-! ## The values -/

theorem N36 : cfg0.N = 36 := N_0
theorem lt36 (t : Fin cfg0.N) : t.val < 36 := lt_of_lt_of_eq t.isLt N36
/-- The first point. -/
abbrev t0 : Fin cfg0.N := ⟨0, by rw [N36]; omega⟩
theorem coord (t : Fin cfg0.N) : (grid0.coords t 0).val = t.val := by
  have h : ∀ t : Fin grid0.N, (grid0.coords t 0).val = t.val := by decide +kernel
  exact h t

/-- The tokens, the weight, and the two factors, as the region finds them. -/
def Xv (c : Dev nD) : S256x7168.Idx → Elt F .bf16 := iblk m c 0 t0
def Wv (c : Dev nD) : S18432x7168.Idx → Elt F .fp8e4m3 := wM.view.read (Elt F) (XW m c)
def Cv (c : Dev nD) : S36x56.Idx → Elt F .bf16 := iblk m c 2 t0
def Dv (c : Dev nD) : S512x128.Idx → Elt F .bf16 := iblk m c 3 t0
/-- Point `t`'s weight scales. -/
def Sv (c : Dev nD) (t : Fin cfg0.N) : S1x1x512.Idx → Elt F .f32 := iblk m c 1 t
/-- Point `t`'s block of the result. -/
def Yv (c : Dev nD) (t : Fin cfg0.N) : S256x512.Idx → Elt F .bf16 := yF (Xv m c) (Wv m c) (Sv m c t) (Cv m c) (Dv m c) (grid0.coords t 0)
def COv (c : Dev nD) : S256x7168.Idx → Elt F .fp8e4m3 := codesF (Xv m c)
def XSv (c : Dev nD) : S1x256.Idx → Elt F .f32 := xsF (Xv m c)
/-- What the first point leaves in scratch. -/
def Uv (c : Dev nD) : S36x256x512.Idx → Elt F .f32 := uF (Xv m c) (Dv m c) (ckF (Cv m c))
def XBv (c : Dev nD) : S256x128.Idx → Elt F .f32 := xsbF (Xv m c)

/-! ## The pipeline's proof data -/

/-- Held before the first point: everything free, all blocks home. -/
def Φ0 (c : Dev nD) : sProp 𝕄 :=
  iprop(bigSep Finset.univ (homeP c (XW m c)) ∗ slots6 c ∗ cells6 c ∗ (∃ f, own c uM f) ∗ (∃ f, own c ckM f) ∗ ∃ f, own c xsbM f)
/-- Held before point `n`, `1 ≤ n ≤ 36`. -/
def Φ1 (c : Dev nD) (n : ℕ) : sProp 𝕄 :=
  iprop(ringAt c (XW m c) n ∗ (∃ f, ⌜uM.view.read (Elt F) f = Uv m c⌝ ∗ own c uM f) ∗ (∃ f, own c ckM f) ∗ ∃ f, ⌜xsbM.view.read (Elt F) f = XBv m c⌝ ∗ own c xsbM f)
def Φ (c : Dev nD) (n : ℕ) : sProp 𝕄 := if n = 0 then Φ0 m c else Φ1 m c n
theorem Φ_zero (c : Dev nD) {n : ℕ} (h : n = 0) : Φ m c n = Φ0 m c := if_pos h
theorem Φ_pos (c : Dev nD) {n : ℕ} (h : n ≠ 0) : Φ m c n = Φ1 m c n := if_neg h

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Yv m c t
    | ⟨5, _⟩ => COv m c
    | ⟨6, _⟩ => XSv m c
  Φ t := Φ m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by unfold Dat.blockOf; dsimp only [dats]; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by unfold Dat.blockOf; dsimp only [dats]; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by unfold Dat.blockOf; dsimp only [dats]; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by unfold Dat.blockOf; dsimp only [dats]; rfl) t d).trans
    (by unfold Dat.fetched Dat.blockOf iblk; dsimp only [dats]; rfl)
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = Yv m c t := by dsimp only [dats]
theorem after_w5 (c : Dev nD) (t : Fin cfg0.N) : (dats m 0 c).after 5 t = COv m c := by dsimp only [dats]
theorem after_w6 (c : Dev nD) (t : Fin cfg0.N) : (dats m 0 c).after 6 t = XSv m c := by dsimp only [dats]

/-! ## The windows written at the first point only -/

/-- The buffer is unwritten before the first point only (and after the write-back at the end). -/
abbrev tb (n : ℕ) : Bool := n == 0 || n == 36
theorem idle5 (t : Fin cfg0.N) : cfg0.idle 5 (cfg0.grid.coords t) = !(t.val == 0) := by
  have h : ∀ t : Fin grid0.N, (!(k0_cond1 (grid0.coords t) == 1#1)) = !(t.val == 0) := by decide +kernel
  exact h t
theorem idle6 (t : Fin cfg0.N) : cfg0.idle 6 (cfg0.grid.coords t) = !(t.val == 0) := idle5 t
theorem flush5 (t : Fin cfg0.N) : (cfg0.win 5).flush t = (t.val == 35) := by
  have h := flush0_5 t
  have ht := lt36 t
  rw [Bool.eq_iff_iff, h, beq_iff_eq]; omega
theorem flush6 (t : Fin cfg0.N) : (cfg0.win 6).flush t = (t.val == 35) := by
  have h := flush0_6 t
  have ht := lt36 t
  rw [Bool.eq_iff_iff, h, beq_iff_eq]; omega
theorem tb_step (n : ℕ) (h : n < 36) : tb (n + 1) = ((n == 35) || (!(n == 0) && tb n)) := by
  have h : ∀ n : Fin 36, tb (n.val + 1) = ((n.val == 35) || (!(n.val == 0) && tb n.val)) := by decide
  exact h ⟨n, by assumption⟩
theorem fresh5 (t : Fin cfg0.N) : cfg0.fresh 5 t.val = tb t.val :=
  cfg0.fresh_tab 5 tb rfl (fun t => by
    have ht := lt36 t
    rw [flush5, idle5]; exact tb_step t.val ht) t.val (Nat.le_of_lt t.isLt)
theorem fresh6 (t : Fin cfg0.N) : cfg0.fresh 6 t.val = tb t.val :=
  cfg0.fresh_tab 6 tb rfl (fun t => by
    have ht := lt36 t
    rw [flush6, idle6]; exact tb_step t.val ht) t.val (Nat.le_of_lt t.isLt)

theorem before_w5 (c : Dev nD) (t : Fin cfg0.N) (d) : (dats m 0 c).before 5 t d = if tb t.val then d else COv m c := by
  rw [(dats m 0 c).before_out_traj 5 rfl (fun _ _ => rfl) (fun t ht _ _ => by rw [after_w5, after_w5]) t.val t rfl d, fresh5, after_w5]
theorem before_w6 (c : Dev nD) (t : Fin cfg0.N) (d) : (dats m 0 c).before 6 t d = if tb t.val then d else XSv m c := by
  rw [(dats m 0 c).before_out_traj 6 rfl (fun _ _ => rfl) (fun t ht _ _ => by rw [after_w6, after_w6]) t.val t rfl d, fresh6, after_w6]
theorem tb_mid (t : Fin cfg0.N) (h : t.val ≠ 0) : tb t.val = false := by
  have ht := lt36 t
  rw [tb, Bool.or_eq_false_iff]; exact ⟨beq_false_of_ne h, beq_false_of_ne (by omega)⟩
theorem before_w5_mid (c : Dev nD) (t : Fin cfg0.N) (h : t.val ≠ 0) (d) : (dats m 0 c).before 5 t d = COv m c := by
  rw [before_w5, tb_mid t h]; rfl
theorem before_w6_mid (c : Dev nD) (t : Fin cfg0.N) (h : t.val ≠ 0) (d) : (dats m 0 c).before 6 t d = XSv m c := by
  rw [before_w6, tb_mid t h]; rfl

/-- Such a window's buffer holding the codes is what the obligation asks of it after any point. -/
theorem leave5 (c : Dev nD) (t : Fin cfg0.N) :
    (owns (c : Thread nD τ) ((cfg0.win 5).stage (cfg0.slots t 5)) fullShare (COv m c) : sProp 𝕄)
      ⊢ match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t) := by
  cases cfg0.idle 5 (cfg0.grid.coords t)
  · dsimp only; rw [after_w5]
  · cases (cfg0.win 5).flush t
    · dsimp only
      iintro H; iexists (COv m c); rw [before_w5, ite_self]; iexact H
    · dsimp only; rw [after_w5]
theorem leave6 (c : Dev nD) (t : Fin cfg0.N) :
    (owns (c : Thread nD τ) ((cfg0.win 6).stage (cfg0.slots t 6)) fullShare (XSv m c) : sProp 𝕄)
      ⊢ match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) := by
  cases cfg0.idle 6 (cfg0.grid.coords t)
  · dsimp only; rw [after_w6]
  · cases (cfg0.win 6).flush t
    · dsimp only
      iintro H; iexists (XSv m c); rw [before_w6, ite_self]; iexact H
    · dsimp only; rw [after_w6]

/-! ## The body at a point -/

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4))
        (win0_5.stage (a.2 5)) (hstage0_5 ((a.2 5).cast nbuf0_5)) (win0_6.stage (a.2 6)) (hstage0_6 ((a.2 6).cast nbuf0_6)) := rfl
/-- The kernel on point `t`'s staging buffers. -/
abbrev bodyT (t : Fin cfg0.N) : Prog (TpuEff nD τ sig (Elt F) Λ₀ .tc) PUnit :=
  bodyG (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6))
theorem prog_eq (t : Fin cfg0.N) : (defs₀ (F := F)) .tc cfg0.body (cfg0.bodyArgs t (cfg0.slots t)) = bodyT t :=
  (congrFun defs_tc _).trans rfl

/-- Holding a buffer at contents that read `X` is owning it at `X`. -/
theorem owns_intro (c : Dev nD) {sp : Space} {sh : Shape} {e : EltTy} (M : Memref sig .tc sp sh e) (f : Buf (Elt F) (M.view.loc (c : Thread nD τ)))
    (X : sh.Idx → Elt F e) (h : M.view.read (Elt F) f = X) : (own c M f : sProp 𝕄) ⊢ owns (c : Thread nD τ) M fullShare X := by
  unfold owns
  iintro H; iexists f; isplitr; · ipureintro; exact h
  iexact H

theorem owns_elim (c : Dev nD) {sp : Space} {sh : Shape} {e : EltTy} (M : Memref sig .tc sp sh e) (X : sh.Idx → Elt F e) :
    (owns (c : Thread nD τ) M fullShare X : sProp 𝕄) ⊢ iprop(∃ f : Buf (Elt F) (M.view.loc (c : Thread nD τ)), ⌜M.view.read (Elt F) f = X⌝ ∗ own c M f) := .rfl

/-- The staging buffers of the inputs, held at contents that read their blocks; then the whole step at a point after the first. -/
theorem step_pos (c : Dev nD) (t : Fin cfg0.N) (h : t.val ≠ 0) (g3 g4 g7 W)
    (h3 : (st0_1 t).view.read (Elt F) g3 = Sv m c t) (h7 : (st0_5 t).view.read (Elt F) g7 = COv m c) (Q : PUnit → sProp 𝕄) :
    iprop((Φ1 m c t.val ∗ own c (st0_1 t) g3 ∗ own c (st0_4 t) g4 ∗ own c (st0_5 t) g7 ∗ owes (c : Thread nD τ) 0 W)
      ∗ ((Φ1 m c (t.val + 1) ∗ own c (st0_1 t) g3 ∗ owns (c : Thread nD τ) (st0_4 t) fullShare (Yv m c t) ∗ own c (st0_5 t) g7 ∗ ∃ W, owes (c : Thread nD τ) 0 W) -∗ Q ⟨⟩))
      ⊢ wp frame (wpE (defs₀ (F := F)) 𝒱₀ (c : Thread nD τ) none) Set.univ (bodyT t) Q := by
  have h0 : ¬ (grid0.coords t 0).val = 0 := by rw [coord]; exact h
  unfold Φ1
  rw [← coord t]
  iintro ⟨⟨⟨HR, ⟨%f10, %h10, H10⟩, H11, ⟨%f12, %h12, H12⟩⟩, H3, H6, H7, HW⟩, Hk⟩
  have hy := yPay_eq c (XW m c) (grid0.coords t) (st0_1 t) (st0_5 t) g3 g7 f10 f12 _ _ _ h7 h10 h12
  rw [h3] at hy
  have hy6 := (store6 (st0_4 t) g4 (yPay c (XW m c) (grid0.coords t) (st0_1 t) (st0_5 t) g3 g7 f10 f12)).trans hy
  by_cases h6 : (grid0.coords t 0).val + 6 < 36
  · iapply (stepMid c (XW m c) (grid0.coords t) (st0_0 t) _ (st0_1 t) _ (st0_2 t) _ (st0_3 t) _ (st0_4 t) _ (st0_5 t) _ (st0_6 t) _ h0 h6 g3 g4 g7 f10 f12 W Q)
    isplitl [HR H10 H12 H3 H6 H7 HW]
    · isplitl [H3]; · iexact H3
      isplitl [H6]; · iexact H6
      isplitl [H7]; · iexact H7
      isplitl [H10]; · iexact H10
      isplitl [H12]; · iexact H12
      isplitl [HR]; · iexact HR
      iexact HW
    iintro ⟨H3, H6, H7, H10, H12, HR, HW⟩
    iapply Hk
    isplitl [HR H10 H11 H12]
    · isplitl [HR]; · iexact HR
      isplitl [H10]
      · iexists f10; isplitr; · ipureintro; exact h10
        iexact H10
      isplitl [H11]; · iexact H11
      iexists f12; isplitr; · ipureintro; exact h12
      iexact H12
    isplitl [H3]; · iexact H3
    isplitl [H6]
    · iapply (owns_intro c (st0_4 t) _ (Yv m c t) hy6); iexact H6
    isplitl [H7]; · iexact H7
    iexact HW
  · iapply (stepTail c (XW m c) (grid0.coords t) (st0_0 t) _ (st0_1 t) _ (st0_2 t) _ (st0_3 t) _ (st0_4 t) _ (st0_5 t) _ (st0_6 t) _ h0 (by omega) g3 g4 g7 f10 f12 W Q)
    isplitl [HR H10 H12 H3 H6 H7 HW]
    · isplitl [H3]; · iexact H3
      isplitl [H6]; · iexact H6
      isplitl [H7]; · iexact H7
      isplitl [H10]; · iexact H10
      isplitl [H12]; · iexact H12
      isplitl [HR]; · iexact HR
      iexact HW
    iintro ⟨H3, H6, H7, H10, H12, HR, HW⟩
    iapply Hk
    isplitl [HR H10 H11 H12]
    · isplitl [HR]; · iexact HR
      isplitl [H10]
      · iexists f10; isplitr; · ipureintro; exact h10
        iexact H10
      isplitl [H11]; · iexact H11
      iexists f12; isplitr; · ipureintro; exact h12
      iexact H12
    isplitl [H3]; · iexact H3
    isplitl [H6]
    · iapply (owns_intro c (st0_4 t) _ (Yv m c t) hy6); iexact H6
    isplitl [H7]; · iexact H7
    iexact HW

/-- The names of the first point's block and slot. -/
theorem home_first (c : Dev nD) (t : Fin cfg0.N) (h : t.val = 0) (XA) : homeP (F := F) c XA 0 = homeP c XA (Ring.bk 36 (grid0.coords t 0).val) := by rw [coord, h]; rfl
theorem home_six (c : Dev nD) (t : Fin cfg0.N) (h : t.val = 0) (XA) : homeP (F := F) c XA (Ring.bk 36 (0 + 6)) = homeP c XA (Ring.bk 36 ((grid0.coords t 0).val + 6)) := by rw [coord, h]
theorem cell_first (c : Dev nD) (t : Fin cfg0.N) (h : t.val = 0) : cellP (F := F) c 0 = cellP c (Ring.sl 6 (grid0.coords t 0).val) := by rw [coord, h]; rfl
theorem slot_first (c : Dev nD) (t : Fin cfg0.N) (h : t.val = 0) : (iprop(∃ f, slotP (F := F) c 0 f) : sProp 𝕄) = iprop(∃ f, slotP c (Ring.sl 6 (grid0.coords t 0).val) f) := by rw [coord, h]; rfl

theorem rest_at_first (c : Dev nD) (t : Fin cfg0.N) (h : t.val = 0) (XA) :
    bigSep ((Ring.homeSet (NB := 36) 6 0).erase (Ring.bk 36 (0 + 6))) (homeP (F := F) c XA)
      = bigSep ((Ring.homeSet 6 (grid0.coords t 0).val).erase (Ring.bk 36 ((grid0.coords t 0).val + 6))) (homeP c XA) := by rw [coord, h]

/-- The whole step at the first point. -/
theorem step_zero (c : Dev nD) (t : Fin cfg0.N) (h : t.val = 0) (g1 g3 g4 g5 g6 g7 g8 W)
    (h1 : (st0_0 t).view.read (Elt F) g1 = Xv m c) (h3 : (st0_1 t).view.read (Elt F) g3 = Sv m c t)
    (h4 : (st0_2 t).view.read (Elt F) g4 = Cv m c) (h5 : (st0_3 t).view.read (Elt F) g5 = Dv m c) (Q : PUnit → sProp 𝕄) :
    iprop((Φ0 m c ∗ own c (st0_0 t) g1 ∗ own c (st0_1 t) g3 ∗ own c (st0_2 t) g4 ∗ own c (st0_3 t) g5 ∗ own c (st0_4 t) g6 ∗ own c (st0_5 t) g7 ∗ own c (st0_6 t) g8 ∗ owes (c : Thread nD τ) 0 W)
      ∗ ((Φ1 m c 1 ∗ own c (st0_0 t) g1 ∗ own c (st0_1 t) g3 ∗ own c (st0_2 t) g4 ∗ own c (st0_3 t) g5
          ∗ owns (c : Thread nD τ) (st0_4 t) fullShare (Yv m c t) ∗ owns (c : Thread nD τ) (st0_5 t) fullShare (COv m c) ∗ owns (c : Thread nD τ) (st0_6 t) fullShare (XSv m c) ∗ ∃ W, owes (c : Thread nD τ) 0 W) -∗ Q ⟨⟩))
      ⊢ wp frame (wpE (defs₀ (F := F)) 𝒱₀ (c : Thread nD τ) none) Set.univ (bodyT t) Q := by
  have h0 : (grid0.coords t 0).val = 0 := by rw [coord]; exact h
  have hc1 : k0_cond1 (grid0.coords t) = 1#1 := (cond1_iff _).2 h0
  have ck := ckB_read c (st0_2 t) g4
  rw [h4] at ck
  unfold Φ0
  rw [homes_zero, homes_here c (XW m c) 0 (by omega), home_first c t h, home_six c t h, slots6, slot_first c t h, cells6, cell_first c t h]
  iintro ⟨⟨⟨⟨Hh0, Hh1, Hh2, Hh3, Hh4, Hh5, Hh6, Hrest⟩, ⟨⟨%s0, Hs0⟩, ⟨%s1, Hs1⟩, ⟨%s2, Hs2⟩, ⟨%s3, Hs3⟩, ⟨%s4, Hs4⟩, ⟨%s5, Hs5⟩⟩, HC, ⟨%f10, H10⟩, ⟨%f11, H11⟩, ⟨%f12, H12⟩⟩, H1, H3, H4, H5, H6, H7, H8, HW⟩, Hk⟩
  have a7 := after7 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) g7
  have a10 := after10 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) f10
  have a12 := after12 c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) f12
  have st := fun P hP => stepZero c (XW m c) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) h0 hc1 g1 g3 g4 g5 g6 g7 g8 f10 f11 f12 W s0 s1 s2 s3 s4 s5 P hP Q
  rw [h1] at a7 a10 a12
  rw [h5, ck] at a10
  obtain ⟨P, hP⟩ : ∃ P, P = PB c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) (st0_4 t) (hstage0_4 ((cfg0.slots t 4).cast nbuf0_4))
        (st0_5 t) (hstage0_5 ((cfg0.slots t 5).cast nbuf0_5)) (st0_6 t) (hstage0_6 ((cfg0.slots t 6).cast nbuf0_6)) hc1 g1 g5 (ckB c (st0_2 t) g4) (Scf.trips k0_t1_loop.lb k0_t1_loop.ub k0_t1_loop.st) := ⟨_, rfl⟩
  rw [← hP] at a7 a10 a12
  have hy := yPay_eq c (XW m c) (grid0.coords t) (st0_1 t) (st0_5 t) g3 _ _ _ _ _ _ a7 a10 a12
  rw [h3] at hy
  have hy6 := (store6 (st0_4 t) g6 (yPay c (XW m c) (grid0.coords t) (st0_1 t) (st0_5 t) g3 ((st0_5 t).view.writes (Elt F) g7 P.1) (uM.view.writes (Elt F) f10 P.2.1) (xsbM.view.writes (Elt F) f12 P.2.2))).trans hy
  have h8 := (store8 (st0_6 t) g8 (k0_pay53 (xsbM.view.readAt (Elt F) R12.toLoadRect (xsbM.view.writes (Elt F) f12 P.2.2)))).trans
    (congrArg k0_pay53 ((load12 (xsbM.view.writes (Elt F) f12 P.2.2)).trans a12))
  iapply (st P hP)
  isplitl [Hh0 Hh1 Hh2 Hh3 Hh4 Hh5 Hh6 Hs0 Hs1 Hs2 Hs3 Hs4 Hs5 HC H10 H11 H12 H1 H3 H4 H5 H6 H7 H8 HW]
  · isplitl [H1]; · iexact H1
    isplitl [H3]; · iexact H3
    isplitl [H4]; · iexact H4
    isplitl [H5]; · iexact H5
    isplitl [H6]; · iexact H6
    isplitl [H7]; · iexact H7
    isplitl [H8]; · iexact H8
    isplitl [H10 H11 H12]
    · isplitl [H10]; · iexact H10
      isplitl [H11]; · iexact H11
      iexact H12
    isplitl [Hh0 Hh1 Hh2 Hh3 Hh4 Hh5 Hh6]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      iexact Hh6
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [HC]; · iexact HC
    iexact HW
  iintro ⟨H1, H3, H4, H5, H6, H7, H8, ⟨H10, H11, H12⟩, Hh0, HF, HS, HW⟩
  iapply Hk
  isplitl [H10 H11 H12 Hh0 HF HS Hrest]
  · unfold Φ1
    isplitl [Hh0 HF HS Hrest]
    · irw [show (1 : ℕ) = (grid0.coords t 0).val + 1 by rw [h0]]
      iapply (ringAt_next c (XW m c) (grid0.coords t 0).val (by omega))
      isplitl [Hh0 Hrest]
      · isplitl [Hh0]; · iexact Hh0
        iapply (entails_of_eq (rest_at_first c t h (XW m c))); iexact Hrest
      isplitl [HF]; · iexact HF
      iexact HS
    isplitl [H10]
    · iexists _; isplitr; · ipureintro; exact a10
      iexact H10
    isplitl [H11]; · iexists _; iexact H11
    iexists _; isplitr; · ipureintro; exact a12
    iexact H12
  isplitl [H1]; · iexact H1
  isplitl [H3]; · iexact H3
  isplitl [H4]; · iexact H4
  isplitl [H5]; · iexact H5
  isplitl [H6]
  · iapply (owns_intro c (st0_4 t) _ (Yv m c t) hy6); iexact H6
  isplitl [H7]
  · iapply (owns_intro c (st0_5 t) _ (COv m c) a7); iexact H7
  isplitl [H8]
  · iapply (owns_intro c (st0_6 t) _ (XSv m c) h8); iexact H8
  iexact HW

theorem owns_mid6 (c : Dev nD) (t : Fin cfg0.N) (h : t.val ≠ 0) (d) :
    (owns (c : Thread nD τ) ((cfg0.win 6).stage (cfg0.slots t 6)) fullShare ((dats m 0 c).before 6 t d) : sProp 𝕄)
      ⊢ owns (c : Thread nD τ) ((cfg0.win 6).stage (cfg0.slots t 6)) fullShare (XSv m c) := by rw [before_w6_mid m c t h]

/-! ## The body obligation -/

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4]
  rw [show (dats m 0 c).Φ t.castSucc = Φ m c t.val from rfl, show (dats m 0 c).Φ t.succ = Φ1 m c (t.val + 1) from Φ_pos m c (Nat.succ_ne_zero _)]
  unfold Dat.owesAt Pipeline.owesWithin
  rw [show (dats m 0 c).owed t.castSucc = 0 from rfl, show (dats m 0 c).owed t.succ = 0 from rfl]
  by_cases h : t.val = 0
  · obtain rfl : t = t0 := Fin.ext h
    rw [Φ_zero m c h]
    iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
    ihave H0' := (owns_elim c (st0_0 t0) _) $$ H0
    icases H0' with ⟨%g0, %e0, H0⟩
    ihave H1' := (owns_elim c (st0_1 t0) _) $$ H1
    icases H1' with ⟨%g1, %e1, H1⟩
    ihave H2' := (owns_elim c (st0_2 t0) _) $$ H2
    icases H2' with ⟨%g2, %e2, H2⟩
    ihave H3' := (owns_elim c (st0_3 t0) _) $$ H3
    icases H3' with ⟨%g3, %e3, H3⟩
    ihave H4' := (owns_elim c (st0_4 t0) _) $$ H4
    icases H4' with ⟨%g4, %e4, H4⟩
    ihave H5' := (owns_elim c (st0_5 t0) _) $$ H5
    icases H5' with ⟨%g5, %e5, H5⟩
    ihave H6' := (owns_elim c (st0_6 t0) _) $$ H6
    icases H6' with ⟨%g6, %e6, H6⟩
    sl_rw [prog_eq t0]
    iapply (step_zero m c t0 h g0 g1 g2 g3 g4 g5 g6 W e0 e1 e2 e3)
    isplitl [HΦ HW H0 H1 H2 H3 H4 H5 H6]
    · isplitl [HΦ]; · iexact HΦ
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HW
    iintro ⟨HΦ, H0, H1, H2, H3, H4, H5, H6, ⟨%W', HW⟩⟩
    isplitl [HΦ]; · iexact HΦ
    isplitl [HW]
    · iexists W'; isplitr; · ipureintro; exact fun _ _ => Or.inl trivial
      iexact HW
    isplitl [H0]; · iapply (owns_intro c (st0_0 t0) g0 _ e0); iexact H0
    isplitl [H1]; · iapply (owns_intro c (st0_1 t0) g1 _ e1); iexact H1
    isplitl [H2]; · iapply (owns_intro c (st0_2 t0) g2 _ e2); iexact H2
    isplitl [H3]; · iapply (owns_intro c (st0_3 t0) g3 _ e3); iexact H3
    isplitl [H4]; · iexact H4
    isplitl [H5]; · iapply (leave5 m c t0); iexact H5
    iapply (leave6 m c t0); iexact H6
  · rw [Φ_pos m c h]
    iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
    ihave H1' := (owns_elim c (st0_1 t) _) $$ H1
    icases H1' with ⟨%g1, %e1, H1⟩
    ihave H4' := (owns_elim c (st0_4 t) _) $$ H4
    icases H4' with ⟨%g4, %e4, H4⟩
    ihave H5' := (owns_elim c (st0_5 t) _) $$ H5
    icases H5' with ⟨%g5, %e5, H5⟩
    rw [before_w5_mid m c t h] at e5
    ihave H6' := (owns_mid6 m c t h d6) $$ H6
    sl_rw [prog_eq t]
    iapply (step_pos m c t h g1 g4 g5 W e1 e5)
    isplitl [HΦ HW H1 H4 H5]
    · isplitl [HΦ]; · iexact HΦ
      isplitl [H1]; · iexact H1
      isplitl [H4]; · iexact H4
      isplitl [H5]; · iexact H5
      iexact HW
    iintro ⟨HΦ, H1, H4, H5, ⟨%W', HW⟩⟩
    isplitl [HΦ]; · iexact HΦ
    isplitl [HW]
    · iexists W'; isplitr; · ipureintro; exact fun _ _ => Or.inl trivial
      iexact HW
    isplitl [H0]; · iexact H0
    isplitl [H1]; · iapply (owns_intro c (st0_1 t) g1 _ e1); iexact H1
    isplitl [H2]; · iexact H2
    isplitl [H3]; · iexact H3
    isplitl [H4]; · iexact H4
    isplitl [H5]
    · iapply (leave5 m c t)
      iapply (owns_intro c (st0_5 t) g5 _ e5); iexact H5
    iapply (leave6 m c t); iexact H6'

end Cert.Proof.KernelIdeal

end
-- ==== Proof.KernelIdealFinish.lean ====
/-
  The run of the whole program: what every finished run leaves in memory, and that the arguments are kept.
-/
module

public import proofs.«01_k».proof.Proof.KernelIdealLaunch

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- After the last point the whole ring is free and every block home. -/
theorem ring_last (c : Dev nD) (XA : Buf (Elt F) (wM.view.loc (c : Thread nD τ))) :
    (ringAt c XA 36 : sProp 𝕄) ⊢ iprop(bigSep Finset.univ (homeP c XA) ∗ slots6 c ∗ cells6 c) := by
  unfold ringAt restS
  rw [homes_last, slotN_ge c XA (show ¬ 36 < 36 by omega), slotN_ge c XA (show ¬ 36 + 1 < 36 by omega), slotN_ge c XA (show ¬ 36 + 2 < 36 by omega),
    slotN_ge c XA (show ¬ 36 + 3 < 36 by omega), slotN_ge c XA (show ¬ 36 + 4 < 36 by omega), slotN_ge c XA (show ¬ 36 + 5 < 36 by omega)]
  rw [show Ring.sl 6 36 = 0 from rfl, show Ring.sl 6 (36 + 1) = 1 from rfl, show Ring.sl 6 (36 + 2) = 2 from rfl,
    show Ring.sl 6 (36 + 3) = 3 from rfl, show Ring.sl 6 (36 + 4) = 4 from rfl, show Ring.sl 6 (36 + 5) = 5 from rfl]
  iintro ⟨H, ⟨C0, S0⟩, ⟨C1, S1⟩, ⟨C2, S2⟩, ⟨C3, S3⟩, ⟨C4, S4⟩, ⟨C5, S5⟩⟩
  isplitl [H]; · iexact H
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [C0]; · iexact C0
  isplitl [C1]; · iexact C1
  isplitl [C2]; · iexact C2
  isplitl [C3]; · iexact C3
  isplitl [C4]; · iexact C4
  iexact C5

/-- What the region takes in: the weight's blocks home, the ring's cells at zero. -/
def intoΦ (c : Dev nD) : sProp 𝕄 := iprop(bigSep Finset.univ (homeP c (XW m c)) ∗ Pipeline.ownSems0 osem c)
/-- What it gives back: the weight whole. -/
def outOfΦ (c : Dev nD) : sProp 𝕄 := ((c : Thread nD τ).loc main_arg1) ↦{fullShare} V m c main_arg1
/-- What stays outside: the two arguments read by the host operations only. -/
def keptΦ (c : Dev nD) : sProp 𝕄 :=
  iprop((((c : Thread nD τ).loc main_arg0) ↦{fullShare} V m c main_arg0) ∗ (((c : Thread nD τ).loc main_arg2) ↦{fullShare} V m c main_arg2))
def u₀ : UU nD τ := (initOf (Pipeline.cells cfgs Gen.cellOf_inj) (Pipeline.launchToks cfgs Gen.cellOf_inj), 1)
/-- A window's array after the run. -/
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = V m c main_arg1 ∧ s.mem ((c : Thread nD τ).loc main_arg0) = V m c main_arg0 ∧ s.mem ((c : Thread nD τ).loc main_arg2) = V m c main_arg2
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- From any memory with zero counters every weakly fair execution of the program terminates, with every window's array
    at its computed contents, the other arguments unchanged, every semaphore counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := keptΦ m)
    (hX := fun c => by
      rw [unscopedRest0_eq, w_eq m c]
      unfold intoΦ keptΦ
      iintro ⟨⟨H0, H1, H2⟩, HS, -, -, -⟩; imodintro
      isplitl [H1 HS]
      · isplitl [H1]; · iexact H1
        iexact HS
      isplitl [H0]; · iexact H0
      iexact H2)
    (hin := fun c => by
      rw [scopedRest0_eq, show (dats m 0 c).Φ 0 = Φ0 m c from Φ_zero m c rfl]
      unfold intoΦ Φ0; rw [ownSems0_eq]
      iintro ⟨⟨H0, HC⟩, Hb, ⟨%f1, H1⟩, ⟨%f2, H2⟩, ⟨%f3, H3⟩⟩
      ihave Hs := (buf_split c) $$ Hb
      isplitl [H0]; · iexact H0
      isplitl [Hs]; · iexact Hs
      isplitl [HC]; · iexact HC
      isplitl [H1]
      · iexists f1; iapply (entails_of_eq (own_whole c cc0_scratch1 f1)); iexact H1
      isplitl [H2]
      · iexists f2; iapply (entails_of_eq (own_whole c cc0_scratch2 f2)); iexact H2
      iexists f3; iapply (entails_of_eq (own_whole c cc0_scratch3 f3)); iexact H3)
    (hout := fun c => by
      rw [scopedRest0_eq, show (dats m 0 c).Φ (Fin.last cfg0.N) = Φ1 m c 36 from (congrArg (Φ m c) N36).trans (Φ_pos m c (by decide)), ownSems0_eq]
      unfold Φ1 outOfΦ; rw [w_eq m c]
      iintro ⟨HR, ⟨%f1, -, H1⟩, ⟨%f2, H2⟩, ⟨%f3, -, H3⟩⟩
      ihave HR2 := (ring_last c (XW m c)) $$ HR
      icases HR2 with ⟨H0, HS, HC⟩
      isplitl [H0]; · iexact H0
      isplitl [HC]; · iexact HC
      isplitl [HS]; · iapply (buf_join c); iexact HS
      isplitl [H1]
      · iexists f1; iapply (entails_of_eq (own_whole c cc0_scratch1 f1).symm); iexact H1
      isplitl [H2]
      · iexists f2; iapply (entails_of_eq (own_whole c cc0_scratch2 f2).symm); iexact H2
      iexists f3; iapply (entails_of_eq (own_whole c cc0_scratch3 f3).symm); iexact H3)
    (QY := QY m)
    (hY := fun c s' => by
      unfold outOfΦ keptΦ
      iintro ⟨H1, ⟨H0, H2⟩, HSI⟩
      icombine HSI H1 gives %h1
      icombine HSI H0 gives %h0
      icombine HSI H2 gives %h2
      imodintro
      isplitr
      · ipureintro; exact ⟨Buf.eq_of_forall_mem_univ h1, Buf.eq_of_forall_mem_univ h0, Buf.eq_of_forall_mem_univ h2⟩
      iexact HSI)
    (hQ := fun _ hh hz => ⟨hh, hz⟩)

theorem finalA_in (c : Dev nD) (w : Fin cfg0.W) (hw : (cfg0.win w).isOut = false) :
    finalA m c w = V m c (Pipeline.arrRef spec0 w) := (dats (F := F) m 0 c).arrAt_in w hw _

/-- The program ends with its arguments kept, its results at `finalA`, every counter at zero. -/
theorem run_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ hh => ⟨fun c =>
    ⟨(hh.1 c).2.2.1.trans (V_main_arg0 m c), (hh.1 c).2.1.trans (V_main_arg1 m c), (hh.1 c).2.2.2.trans (V_main_arg2 m c),
      ((hh.1 c).1 2).trans ((finalA_in m c 2 rfl).trans (V_main_arg3 m c)), ((hh.1 c).1 3).trans ((finalA_in m c 3 rfl).trans (V_main_arg4 m c))⟩, hh.2⟩)
    (run_main m ρ)

end Cert.Proof.KernelIdeal

end
-- ==== Proof.PowerOfTwo.lean ====
/-
  The power-of-two scale of a row. The kernel finds the exponent of a number by counting the powers of two that are at
  most it, and builds 2^e and 2^-e as words with that exponent; the reference takes the floor of the binary logarithm.
  The two agree on every number from 0 up to 2^120.
-/
module

public import Idealize.ShloMosaic.PureOps.Ideal
public import Idealize.ShloMosaic.Lib.IndicatorCount
public import Idealize.ShloMosaic.Lib.Pointwise

@[expose] public section

noncomputable section

namespace Cert.Proof

open Idealize.ShloMosaic

/-! ## Words that are powers of two -/

/-- The float whose exponent field is the word `b`. -/
def powWord (b : BitVec 32) : EReal := Ideal.ofBits .f32 (IntOp.shli ArithUnit.vector b 23#32)

theorem pow_fields : ∀ k : Fin 256, ((IntOp.shli ArithUnit.vector (BitVec.ofNat 32 k.val) 23#32).extractLsb' 31 1 = 0#1)
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by decide +kernel

theorem powWord_zero : powWord (BitVec.ofNat 32 0) = 0 := by
  obtain ⟨h1, h2, h3⟩ := pow_fields ⟨0, by omega⟩
  unfold powWord Ideal.ofBits Ideal.ieee
  dsimp only at h1 h2 h3 ⊢
  rw [h2, h3]; simp
theorem powWord_last : powWord (BitVec.ofNat 32 255) = ⊤ := by
  obtain ⟨h1, h2, h3⟩ := pow_fields ⟨255, by omega⟩
  unfold powWord Ideal.ofBits Ideal.ieee
  dsimp only at h1 h2 h3 ⊢
  rw [h1, h2, h3]; simp
theorem powWord_mid (k : ℕ) (h0 : k ≠ 0) (h : k < 255) : powWord (BitVec.ofNat 32 k) = (((2 : ℝ) ^ ((k : ℤ) - 127) : ℝ) : EReal) := by
  obtain ⟨h1, h2, h3⟩ := pow_fields ⟨k, by omega⟩
  unfold powWord Ideal.ofBits Ideal.ieee
  dsimp only at h1 h2 h3 ⊢
  rw [h1, h2, h3, if_neg (by omega), if_neg h0]
  refine congrArg (fun r : ℝ => (r : EReal)) ?_
  simp only [show ((0#1 : BitVec 1) == 1#1) = false from rfl]
  rw [show ((k : ℤ) - (2 ^ (8 - 1) - 1) - (23 : ℕ)) = ((k : ℤ) - 127) - 23 by norm_num, zpow_sub₀ (by norm_num)]
  norm_num; ring

/-- The word of exponent `n`, biased, reads as `2^n`. -/
theorem powWord_int (n : ℤ) (h0 : -126 ≤ n) (h1 : n ≤ 127) : powWord (IntOp.addi (BitVec.ofInt 32 n) 127#32) = (((2 : ℝ) ^ n : ℝ) : EReal) := by
  have e : IntOp.addi (BitVec.ofInt 32 n) 127#32 = BitVec.ofNat 32 (n + 127).toNat := by
    show BitVec.ofInt 32 n + 127#32 = _
    rw [show (127#32 : BitVec 32) = BitVec.ofInt 32 127 from rfl, ← BitVec.ofInt_add, ← BitVec.ofInt_natCast, Int.toNat_of_nonneg (by omega)]
  rw [e, powWord_mid _ (by omega) (by omega), Int.toNat_of_nonneg (by omega)]
  congr 2; omega

/-! ## The exponent -/

/-- How many of the 256 powers are at most `v`, as a word. -/
def countW (v : EReal) : BitVec 32 :=
  Finset.fold IntOp.addi (0#32) (fun x : Fin 256 => if v < powWord (BitVec.ofNat 32 x.val) then 0#32 else 1#32) Finset.univ
/-- The kernel's exponent of `v`, as a word. -/
def expW (v : EReal) : BitVec 32 :=
  Scalar.select (IntOp.cmpi CmpIPredicate.eq (IntOp.subi (countW v) 1#32) 0#32) (0#32) (IntOp.subi (IntOp.subi (countW v) 1#32) 126#32)

theorem countW_eq (v : EReal) (N : ℕ) (hN : N < 256) (h : ∀ k : Fin 256, powWord (BitVec.ofNat 32 k.val) ≤ v ↔ k.val ≤ N) :
    countW v = BitVec.ofNat 32 (N + 1) := by
  unfold countW
  have e : (fun x : Fin 256 => if v < powWord (BitVec.ofNat 32 x.val) then 0#32 else 1#32)
      = fun x : Fin 256 => (BitVec.ofBool (decide (x.val ≤ N))).setWidth 32 := by
    funext x
    by_cases hx : x.val ≤ N
    · rw [if_neg (not_lt.2 ((h x).2 hx)), decide_eq_true hx]; rfl
    · rw [if_pos (lt_of_not_ge (fun hh => hx ((h x).1 hh))), decide_eq_false hx]; rfl
  rw [e, IndicatorCount.fold_addi_setWidth_eq_card]
  congr 1
  have e2 : (Finset.univ.filter fun k : Fin 256 => BitVec.ofBool (decide (k.val ≤ N)) = 1#1) = Finset.Iic ⟨N, hN⟩ := by
    ext k
    simp only [Finset.mem_filter, Finset.mem_univ, true_and, Finset.mem_Iic, Fin.le_def]
    by_cases hk : k.val ≤ N <;> simp [hk]
  rw [e2, Fin.card_Iic]

theorem expW_zero (v : EReal) (h : countW v = BitVec.ofNat 32 1) : expW v = BitVec.ofInt 32 0 := by
  unfold expW; rw [h]; decide
theorem expW_pos (v : EReal) (N : ℕ) (h0 : 0 < N) (hN : N < 256) (h : countW v = BitVec.ofNat 32 (N + 1)) : expW v = BitVec.ofInt 32 ((N : ℤ) - 126) := by
  have H : ∀ N : Fin 256, 0 < N.val → Scalar.select (IntOp.cmpi CmpIPredicate.eq (IntOp.subi (BitVec.ofNat 32 (N.val + 1)) 1#32) 0#32) (0#32)
      (IntOp.subi (IntOp.subi (BitVec.ofNat 32 (N.val + 1)) 1#32) 126#32) = BitVec.ofInt 32 ((N.val : ℤ) - 126) := by decide +kernel
  unfold expW; rw [h]; exact H ⟨N, hN⟩ h0

/-- The reference's exponent of `v`. -/
def expR (v : EReal) : EReal :=
  if v < (((2 : ℝ) ^ (-126 : ℤ) : ℝ) : EReal) then 0 else Ideal.liftRound Int.floor (Ideal.div (Ideal.log v) ((Real.log 2 : ℝ) : EReal)) + 1

/-- Below 2^-126 the exponent is 0 on both sides, above it the logarithm's floor plus one. -/
theorem exp_eq (v : EReal) (h0 : 0 ≤ v) (h1 : v < (((2 : ℝ) ^ (120 : ℤ) : ℝ) : EReal)) :
    ∃ n : ℤ, -125 ≤ n ∧ n ≤ 120 ∧ expW v = BitVec.ofInt 32 n ∧ expR v = ((n : ℝ) : EReal) := by
  have hv : ∃ r : ℝ, v = (r : EReal) := by
    induction v using EReal.rec with
    | bot => exact absurd h0 (by simp)
    | top => exact absurd h1 (by simp)
    | coe r => exact ⟨r, rfl⟩
  obtain ⟨r, rfl⟩ := hv
  have hr0 : 0 ≤ r := by exact_mod_cast h0
  have hr1 : r < (2 : ℝ) ^ (120 : ℤ) := EReal.coe_lt_coe_iff.1 h1
  have two : (1 : ℝ) < 2 := by norm_num
  by_cases hs : r < (2 : ℝ) ^ (-126 : ℤ)
  · refine ⟨0, by omega, by omega, expW_zero _ (countW_eq _ 0 (by omega) fun k => ?_), ?_⟩
    · by_cases hk : k.val = 0
      · rw [hk, powWord_zero]; exact ⟨fun _ => le_refl _, fun _ => h0⟩
      · refine ⟨fun hh => ?_, fun hh => absurd (Nat.le_zero.1 hh) hk⟩
        exfalso
        by_cases hk2 : k.val = 255
        · rw [hk2, powWord_last] at hh; simp at hh
        · rw [powWord_mid _ hk (by have := k.isLt; omega), EReal.coe_le_coe_iff] at hh
          have : (2 : ℝ) ^ (-126 : ℤ) ≤ (2 : ℝ) ^ ((k.val : ℤ) - 127) := zpow_le_zpow_right₀ two.le (by omega)
          linarith
    · unfold expR; rw [if_pos (EReal.coe_lt_coe_iff.2 hs)]; simp
  · have hs' : (2 : ℝ) ^ (-126 : ℤ) ≤ r := not_lt.1 hs
    have hpos : 0 < r := lt_of_lt_of_le (by positivity) hs'
    have hl2 : 0 < Real.log 2 := Real.log_pos two
    have key : ∀ z : ℤ, (2 : ℝ) ^ z ≤ r ↔ z ≤ ⌊Real.log r / Real.log 2⌋ := fun z => by
      rw [Int.le_floor, le_div_iff₀ hl2, ← Real.log_zpow, Real.log_le_log_iff (by positivity) hpos]
    set n := ⌊Real.log r / Real.log 2⌋ with hn
    have hn0 : -126 ≤ n := (key _).1 hs'
    have hn1 : n < 120 := by
      by_contra hc
      exact absurd ((key 120).2 (by omega)) (not_le.2 hr1)
    refine ⟨n + 1, by omega, by omega, ?_, ?_⟩
    · have hc := countW_eq (r : EReal) (n + 127).toNat (by omega) fun k => by
        by_cases hk : k.val = 0
        · rw [hk, powWord_zero]; exact ⟨fun _ => Nat.zero_le _, fun _ => h0⟩
        · by_cases hk2 : k.val = 255
          · rw [hk2, powWord_last]; refine ⟨fun hh => absurd hh (by simp), fun hh => by omega⟩
          · rw [powWord_mid _ hk (by have := k.isLt; omega), EReal.coe_le_coe_iff, key]; omega
      rw [expW_pos _ _ (by omega) (by omega) hc, Int.toNat_of_nonneg (by omega)]
      congr 1; omega
    · unfold expR
      rw [if_neg (fun hh => hs (EReal.coe_lt_coe_iff.1 hh))]
      have e1 : Ideal.log (r : EReal) = ((Real.log r : ℝ) : EReal) := if_neg (not_le.2 hpos)
      have e2 : Ideal.div ((Real.log r : ℝ) : EReal) ((Real.log 2 : ℝ) : EReal) = ((Real.log r / Real.log 2 : ℝ) : EReal) := by
        unfold Ideal.div
        rw [if_neg (by exact_mod_cast hl2.ne'), ← EReal.coe_inv, ← EReal.coe_mul, div_eq_mul_inv]
      rw [e1, e2]
      show ((((⌊Real.log r / Real.log 2⌋ : ℤ) : ℝ) : ℝ) : EReal) + 1 = _
      rw [← hn]; push_cast; rfl

/-- The kernel's scale word is the reference's 2^e; -/
theorem scale_eq (v : EReal) (h0 : 0 ≤ v) (h1 : v < (((2 : ℝ) ^ (120 : ℤ) : ℝ) : EReal)) :
    powWord (IntOp.addi (expW v) 127#32) = Ideal.exp2 (expR v) := by
  obtain ⟨n, hn0, hn1, hw, hr⟩ := exp_eq v h0 h1
  rw [hw, hr, powWord_int n (by omega) (by omega)]
  exact congrArg (fun r : ℝ => (r : EReal)) (Real.rpow_intCast 2 n).symm
/-- its reciprocal word is 2^-e. -/
theorem inv_scale_eq (v : EReal) (h0 : 0 ≤ v) (h1 : v < (((2 : ℝ) ^ (120 : ℤ) : ℝ) : EReal)) :
    powWord (IntOp.addi (IntOp.subi (0#32) (expW v)) 127#32) = Ideal.exp2 (0 - expR v) := by
  obtain ⟨n, hn0, hn1, hw, hr⟩ := exp_eq v h0 h1
  have e : IntOp.subi (0#32) (BitVec.ofInt 32 n) = BitVec.ofInt 32 (-n) := by
    show 0#32 - BitVec.ofInt 32 n = _
    rw [BitVec.ofInt_neg, BitVec.zero_sub]
  rw [hw, hr, e, powWord_int (-n) (by omega) (by omega)]
  have e2 : (0 : EReal) - ((n : ℝ) : EReal) = (((-n : ℤ) : ℝ) : EReal) := by push_cast; simp
  rw [e2]
  exact congrArg (fun r : ℝ => (r : EReal)) (Real.rpow_intCast 2 (-n)).symm

/-! ## The number whose exponent is taken -/

/-- The least normal number. -/
theorem least_normal : Ideal.ofBits .f32 0x00800000#32 = (((2 : ℝ) ^ (-126 : ℤ) : ℝ) : EReal) :=
  powWord_mid 1 (by decide) (by decide)
theorem bot_f32 : Ideal.ofBits .f32 0xFF800000#32 = ⊥ := by
  unfold Ideal.ofBits Ideal.ieee; dsimp only
  rw [if_pos (by decide), if_pos (by decide), if_pos (by decide)]
theorem bot_bf16 : Ideal.ofBits .bf16 0xFF80#16 = ⊥ := by
  unfold Ideal.ofBits Ideal.ieee; dsimp only
  rw [if_pos (by decide), if_pos (by decide), if_pos (by decide)]

/-- The largest absolute value of a row. -/
def rowMax (f : Fin 7168 → EReal) : EReal := Finset.fold max ⊥ (fun x => max (f x) (-(f x))) Finset.univ
/-- That value over 448: the multiple of it that the exponent is taken of. -/
def rowVal (f : Fin 7168 → EReal) : EReal := rowMax f * Ideal.ofBits .f32 0x3B124925#32

theorem recip448 : ∃ r : ℝ, Ideal.ofBits .f32 0x3B124925#32 = (r : EReal) ∧ 0 ≤ r ∧ r ≤ 1 / 300 := by
  refine ⟨(2 ^ 23 + 0x124925 : ℝ) * (2 : ℝ) ^ (-32 : ℤ), ?_, by positivity, by norm_num⟩
  unfold Ideal.ofBits Ideal.ieee; dsimp only
  rw [if_neg (by decide), if_neg (by decide)]
  refine congrArg (fun r : ℝ => (r : EReal)) ?_
  rw [show (BitVec.extractLsb' 23 8 (0x3B124925#32)).toNat = 118 from by decide, show (BitVec.extractLsb' 0 23 (0x3B124925#32)).toNat = 0x124925 from by decide,
    show (BitVec.extractLsb' 31 1 (0x3B124925#32) == 1#1) = false from by decide]
  norm_num

/-- A row of numbers of size at most 2^128 has its value in the range where the two exponents agree. -/
theorem rowVal_range (f : Fin 7168 → EReal) (h : ∀ x, max (f x) (-(f x)) ≤ (((2 : ℝ) ^ (128 : ℤ) : ℝ) : EReal)) :
    0 ≤ rowVal f ∧ rowVal f < (((2 : ℝ) ^ (120 : ℤ) : ℝ) : EReal) := by
  have h0 : 0 ≤ rowMax f := by
    refine le_trans ?_ ((Finset.le_fold_max _).2 (Or.inr ⟨0, Finset.mem_univ _, le_refl _⟩))
    rcases le_total 0 (f 0) with hh | hh
    · exact le_max_of_le_left hh
    · exact le_max_of_le_right (EReal.neg_nonneg.2 hh)
  have h1 : rowMax f ≤ (((2 : ℝ) ^ (128 : ℤ) : ℝ) : EReal) := (Finset.fold_max_le _).2 ⟨bot_le, fun x _ => h x⟩
  obtain ⟨r, hr, hr0, hr1⟩ := recip448
  unfold rowVal
  generalize rowMax f = m at h0 h1 ⊢
  rw [hr]
  have hm : ∃ a : ℝ, m = (a : EReal) := by
    induction m using EReal.rec with
    | bot => exact absurd h0 (by simp)
    | top => exact absurd h1 (not_le.2 (EReal.coe_lt_top _))
    | coe a => exact ⟨a, rfl⟩
  obtain ⟨a, rfl⟩ := hm
  have ha0 : 0 ≤ a := by exact_mod_cast h0
  have ha1 : a ≤ (2 : ℝ) ^ (128 : ℤ) := EReal.coe_le_coe_iff.1 h1
  rw [← EReal.coe_mul]
  refine ⟨by exact_mod_cast mul_nonneg ha0 hr0, EReal.coe_lt_coe_iff.2 ?_⟩
  have : a * r ≤ (2 : ℝ) ^ (128 : ℤ) * (1 / 300) := mul_le_mul ha1 hr1 hr0 (by positivity)
  refine lt_of_le_of_lt this ?_
  norm_num

end Cert.Proof

end
-- ==== Proof.KernelIdealValue.lean ====
/-
  The kernel's payloads read at one index, over the extended reals: the exponent, the scale and the codes of a row, the
  Kronecker factor, the rank-one term, and the output tile.
-/
module

public import proofs.«01_k».proof.Proof.KernelIdealBlock
public import proofs.«01_k».proof.Proof.PowerOfTwo
public import Idealize.ShloMosaic.Lib.Pointwise

@[expose] public section

noncomputable section

namespace Cert.Proof.KernelIdeal

open Cert.KernelIdeal Cert.KernelIdeal.Gen
open Idealize.ShloMosaic

set_option maxRecDepth 16384

theorem pay1_at (x : FVec Ideal S32x7168 .bf16) (r : Fin 32) (z : Fin 7168) : k0_pay1 (F := Ideal) x (ix2 r z) = x (ix2 r z) := by
  unfold k0_pay1
  pointwise
theorem pay4_at (x : FVec Ideal S32x7168 .bf16) (r : Fin 32) (z : Fin 7168) : k0_pay4 (F := Ideal) x (ix2 r z) = x (ix2 r z) := by
  unfold k0_pay4 k0_pay1
  pointwise

theorem pay2_at (x : FVec Ideal S32x7168 .bf16) (r : Fin 32) (z : Fin 1) :
    k0_pay2 (F := Ideal) x (ix2 r z) = expW (rowVal fun k => x (ix2 r k)) := by
  unfold expW countW powWord rowVal rowMax k0_pay2 k0_pay1
  rw [← bot_bf16]
  pointwise
  rfl

theorem pay3_at (x : FVec Ideal S32x7168 .bf16) (r : Fin 32) (z : Fin 128) :
    k0_pay3 (F := Ideal) x (ix2 r z) = powWord (IntOp.addi (k0_pay2 (F := Ideal) x (ix2 r 0)) 127#32) := by
  unfold powWord k0_pay3
  generalize k0_pay2 (F := Ideal) x = e
  pointwise

theorem pay5_at (e : IVec S32x1 32) (x : FVec Ideal S32x7168 .f32) (r : Fin 32) (z : Fin 7168) :
    k0_pay5 (F := Ideal) e x 0#32 (ix2 r z) = min (Ideal.ofBits FTy.f32 1138753536#32)
      (max (Ideal.ofBits FTy.f32 3286237184#32) (x (ix2 r z) * powWord (IntOp.addi (IntOp.subi 0#32 (e (ix2 r 0))) 127#32))) := by
  unfold powWord k0_pay5
  pointwise

theorem pay53_at (x : Vec Ideal S256x128 .f32) (r : Fin 1) (z : Fin 256) : k0_pay53 (F := Ideal) x (ix2 r z) = x (ix2 z 0) := by
  unfold k0_pay53
  pointwise

/-! ## The Kronecker factor -/

theorem shr3_eq (z x : ℕ) (hz : z < 1024) (hx : x < 1024) :
    IntOp.cmpi CmpIPredicate.eq (IntOp.shrui ArithUnit.vector (BitVec.ofNat 32 z) 3#32) (BitVec.ofNat 32 x) = BitVec.ofBool (decide (z / 8 = x)) := by
  have e : IntOp.shrui ArithUnit.vector (BitVec.ofNat 32 z) 3#32 = BitVec.ofNat 32 (z / 8) := by
    show (BitVec.ofNat 32 z) >>> 3 = _
    apply BitVec.eq_of_toNat_eq
    rw [BitVec.toNat_ushiftRight, BitVec.toNat_ofNat, BitVec.toNat_ofNat, Nat.shiftRight_eq_div_pow]
    omega
  rw [e]
  show BitVec.ofBool (BitVec.ofNat 32 (z / 8) == BitVec.ofNat 32 x) = _
  congr 1
  rw [Bool.eq_iff_iff, beq_iff_eq, decide_eq_true_iff]
  refine ⟨fun hh => ?_, fun hh => by rw [hh]⟩
  have := congrArg BitVec.toNat hh
  rw [BitVec.toNat_ofNat, BitVec.toNat_ofNat] at this
  omega
theorem and7_eq (z x : ℕ) (hz : z < 1024) (hx : x < 1024) :
    IntOp.cmpi CmpIPredicate.eq (IntOp.andi (BitVec.ofNat 32 z) 7#32) (IntOp.andi (BitVec.ofNat 32 x) 7#32) = BitVec.ofBool (decide (z % 8 = x % 8)) := by
  have e : ∀ z, z < 1024 → IntOp.andi (BitVec.ofNat 32 z) 7#32 = BitVec.ofNat 32 (z % 8) := fun z hz => by
    show (BitVec.ofNat 32 z) &&& 7#32 = _
    apply BitVec.eq_of_toNat_eq
    rw [BitVec.toNat_and, BitVec.toNat_ofNat, BitVec.toNat_ofNat, BitVec.toNat_ofNat, show 7 % 2 ^ 32 = 2 ^ 3 - 1 from rfl, Nat.and_two_pow_sub_one_eq_mod]
    omega
  rw [e z hz, e x hx]
  show BitVec.ofBool (BitVec.ofNat 32 (z % 8) == BitVec.ofNat 32 (x % 8)) = _
  congr 1
  rw [Bool.eq_iff_iff, beq_iff_eq, decide_eq_true_iff]
  refine ⟨fun hh => ?_, fun hh => by rw [hh]⟩
  have := congrArg BitVec.toNat hh
  rw [BitVec.toNat_ofNat, BitVec.toNat_ofNat] at this
  omega
theorem select_ofBool {α : Type} (b : Bool) (x y : α) : Scalar.select (BitVec.ofBool b) x y = if b then x else y := by
  cases b <;> rfl
/-- A sum against a one-hot row is the entry it picks. -/
theorem sum_onehot (n z : ℕ) (hz : z < 1024) (hn : n ≤ 1024) (h : z / 8 < n) (f : Fin n → EReal) :
    (∑ x : Fin n, Scalar.select (IntOp.cmpi CmpIPredicate.eq (IntOp.shrui ArithUnit.vector (BitVec.ofNat 32 z) 3#32) (BitVec.ofNat 32 x.val)) (f x) 0) = f ⟨z / 8, h⟩ := by
  rw [Finset.sum_eq_single (⟨z / 8, h⟩ : Fin n)]
  · rw [shr3_eq _ _ hz (by omega), select_ofBool, decide_eq_true rfl]; rfl
  · intro x _ hx
    rw [shr3_eq _ _ hz (by have := x.isLt; omega), select_ofBool, decide_eq_false (fun hh => hx (Fin.ext hh.symm))]; rfl
  · intro hh; exact absurd (Finset.mem_univ _) hh

/-- The kernel's factor is `C` spread over the diagonal of an 8 by 8 identity. -/
theorem ckF_at (C : Vec Ideal S36x56 .bf16) (r : Fin 288) (z : Fin 448) :
    ckF (F := Ideal) C (ix2 r z) = if r.val % 8 = z.val % 8 then C (ix2 ⟨r.val / 8, by omega⟩ ⟨z.val / 8, by omega⟩) else 0 := by
  unfold ckF k0_pay49 k0_pay48 k0_pay47
  pointwise
  rw [sum_onehot 56 z.val (by omega) (by omega) (by omega), sum_onehot 36 r.val (by omega) (by omega) (by omega), and7_eq _ _ (by omega) (by omega), select_ofBool]
  by_cases hh : r.val % 8 = z.val % 8
  · rw [if_pos hh, decide_eq_true hh]; rfl
  · rw [if_neg hh, decide_eq_false hh]; rfl

/-! ## The rank-one term -/

/-- The `p`-th 128-wide piece of a trip's tokens. -/
def pieceF (v : FVec Ideal S32x7168 .bf16) (p : Fin 56) : FVec Ideal S32x128 .bf16 :=
  fun j => v (ix2 (j 0) ⟨128 * p.val + (j 1).val, by have : (j 1).val < 128 := (j 1).isLt; omega⟩)
theorem slices_piece (p : Fin 56) : Shape.Slices S32x7168 ![0, 128 * p.val] S32x128 := by revert p; decide
theorem pieceF_eq (v : FVec Ideal S32x7168 .bf16) (p : Fin 56) :
    pieceF v p = extractStridedSlice S32x128 ![0, 128 * p.val] v (slices_piece p) := by
  funext j
  unfold extractStridedSlice pieceF
  refine congrArg v ?_
  funext b
  fin_cases b
  · exact Fin.ext (Nat.zero_add _).symm
  · rfl

/-- The pieces laid under one another, read at a row. -/
theorem stack_at (v : FVec Ideal S32x7168 .bf16) (xs : List ((s : Shape) × (s.Idx → Ideal .bf16))) (h : Shape.Concatenates (xs.map (·.1)) S1792x128 0)
    (hxs : xs = List.ofFn fun n : Fin 56 => (⟨S32x128, pieceF v n⟩ : (s : Shape) × (s.Idx → Ideal .bf16))) (p : Fin 56) (r : Fin 32) (q : Fin 128) :
    concatenate S1792x128 0 xs h (ix2 ⟨p.val * 32 + r.val, by omega⟩ q) = v (ix2 r ⟨128 * p.val + q.val, by omega⟩) := by
  subst hxs
  exact concatenate_ofFn_apply (t := S1792x128) (s₁ := S32x128) 0 (fun n => pieceF v n) h rfl 32 rfl _ p
    (by show (p.val * 32 + r.val) / 32 = p.val; omega) (ix2 r q) (by show r.val = (p.val * 32 + r.val) % 32; omega)
    (fun b hb => by fin_cases b; exact absurd rfl hb; rfl)

theorem mid_at (x : FVec Ideal S1792x128 .bf16) (d : FVec Ideal S512x128 .bf16) (p : Fin 56) (r : Fin 32) (z : Fin 512) :
    (shapeCast S56x32x512 (matmul dot_S1792x128_S512x128_S1792x512_1_1_0_0_n_n none x d (constant S1792x512 .f32 0x00000000#32)) shapeCasts_S1792x512_S56x32x512 : FVec Ideal S56x32x512 .f32) (ix3 p r z)
      = ∑ q : Fin 128, x (ix2 ⟨p.val * 32 + r.val, by omega⟩ q) * d (ix2 z q) := by
  pointwise

theorem midF_at (x : FVec Ideal S32x7168 .bf16) (d : FVec Ideal S512x128 .bf16) (p : Fin 56) (r : Fin 32) (z : Fin 512) :
    midF (F := Ideal) x d (ix3 p r z) = ∑ q : Fin 128, x (ix2 r ⟨128 * p.val + q.val, by omega⟩) * d (ix2 z q) := by
  unfold midF k0_pay44
  refine (mid_at _ d p r z).trans (Finset.sum_congr rfl fun q _ => ?_)
  rw [stack_at (k0_pay1 (F := Ideal) x) _ _ ?_ p r q, pay1_at]
  rw [show (fun n : Fin 56 => (⟨S32x128, pieceF (k0_pay1 (F := Ideal) x) n⟩ : (s : Shape) × (s.Idx → Ideal .bf16)))
    = fun n : Fin 56 => ⟨S32x128, extractStridedSlice S32x128 ![0, 128 * n.val] (k0_pay1 (F := Ideal) x) (slices_piece n)⟩ from funext fun n => by rw [pieceF_eq]]
  rfl

/-- A quarter of a trip's rank-one term, from the product `t` and the factor. -/
theorem quarter0 (t : FVec Ideal S56x32x512 .f32) (ck : FVec Ideal S288x448 .bf16) (a : Fin 36) (s : Fin 8) (z : Fin 512) :
    (shapeCast S36x8x512 (mulf (broadcast S288x512 (Scalar.ofBits (F := Ideal) .f32 0x3F000000#32)) (matmul dot_S288x448_S448x512_S288x512_1_0_0_1_n_n none ck
      (truncf .bf16 (shapeCast S448x512 (extractStridedSlice S56x8x512 ![0, 0, 0] t slices_S56x32x512_o0_0_0_S56x8x512) shapeCasts_S56x8x512_S448x512) bitsLt_bf16_f32) (constant S288x512 .f32 0x00000000#32))) shapeCasts_S288x512_S36x8x512 : FVec Ideal S36x8x512 .f32) (ix3 a s z)
      = Ideal.ofBits .f32 0x3F000000#32 * ∑ x : Fin 448, ck (ix2 ⟨a.val * 8 + s.val, by omega⟩ x) * t (ix3 ⟨x.val / 8, by omega⟩ ⟨0 + x.val % 8, by omega⟩ z) := by
  pointwise
theorem quarter1 (t : FVec Ideal S56x32x512 .f32) (ck : FVec Ideal S288x448 .bf16) (a : Fin 36) (s : Fin 8) (z : Fin 512) :
    (shapeCast S36x8x512 (mulf (broadcast S288x512 (Scalar.ofBits (F := Ideal) .f32 0x3F000000#32)) (matmul dot_S288x448_S448x512_S288x512_1_0_0_1_n_n none ck
      (truncf .bf16 (shapeCast S448x512 (extractStridedSlice S56x8x512 ![0, 8, 0] t slices_S56x32x512_o0_8_0_S56x8x512) shapeCasts_S56x8x512_S448x512) bitsLt_bf16_f32) (constant S288x512 .f32 0x00000000#32))) shapeCasts_S288x512_S36x8x512 : FVec Ideal S36x8x512 .f32) (ix3 a s z)
      = Ideal.ofBits .f32 0x3F000000#32 * ∑ x : Fin 448, ck (ix2 ⟨a.val * 8 + s.val, by omega⟩ x) * t (ix3 ⟨x.val / 8, by omega⟩ ⟨8 + x.val % 8, by omega⟩ z) := by
  pointwise

theorem quarter2 (t : FVec Ideal S56x32x512 .f32) (ck : FVec Ideal S288x448 .bf16) (a : Fin 36) (s : Fin 8) (z : Fin 512) :
    (shapeCast S36x8x512 (mulf (broadcast S288x512 (Scalar.ofBits (F := Ideal) .f32 0x3F000000#32)) (matmul dot_S288x448_S448x512_S288x512_1_0_0_1_n_n none ck
      (truncf .bf16 (shapeCast S448x512 (extractStridedSlice S56x8x512 ![0, 16, 0] t slices_S56x32x512_o0_16_0_S56x8x512) shapeCasts_S56x8x512_S448x512) bitsLt_bf16_f32) (constant S288x512 .f32 0x00000000#32))) shapeCasts_S288x512_S36x8x512 : FVec Ideal S36x8x512 .f32) (ix3 a s z)
      = Ideal.ofBits .f32 0x3F000000#32 * ∑ x : Fin 448, ck (ix2 ⟨a.val * 8 + s.val, by omega⟩ x) * t (ix3 ⟨x.val / 8, by omega⟩ ⟨16 + x.val % 8, by omega⟩ z) := by
  pointwise

theorem quarter3 (t : FVec Ideal S56x32x512 .f32) (ck : FVec Ideal S288x448 .bf16) (a : Fin 36) (s : Fin 8) (z : Fin 512) :
    (shapeCast S36x8x512 (mulf (broadcast S288x512 (Scalar.ofBits (F := Ideal) .f32 0x3F000000#32)) (matmul dot_S288x448_S448x512_S288x512_1_0_0_1_n_n none ck
      (truncf .bf16 (shapeCast S448x512 (extractStridedSlice S56x8x512 ![0, 24, 0] t slices_S56x32x512_o0_24_0_S56x8x512) shapeCasts_S56x8x512_S448x512) bitsLt_bf16_f32) (constant S288x512 .f32 0x00000000#32))) shapeCasts_S288x512_S36x8x512 : FVec Ideal S36x8x512 .f32) (ix3 a s z)
      = Ideal.ofBits .f32 0x3F000000#32 * ∑ x : Fin 448, ck (ix2 ⟨a.val * 8 + s.val, by omega⟩ x) * t (ix3 ⟨x.val / 8, by omega⟩ ⟨24 + x.val % 8, by omega⟩ z) := by
  pointwise

theorem same36 (t : FVec Ideal S36x8x512 .f32) (a : Fin 36) (s : Fin 8) (z : Fin 512) :
    (shapeCast S36x8x512 t shapeCasts_S36x8x512_S36x8x512 : FVec Ideal S36x8x512 .f32) (ix3 a s z) = t (ix3 a s z) := by
  pointwise

theorem uPay_at (r : Fin 4) (x : FVec Ideal S32x7168 .bf16) (d : FVec Ideal S512x128 .bf16) (ck : FVec Ideal S288x448 .bf16) (a : Fin 36) (s : Fin 8) (z : Fin 512) :
    uPay (F := Ideal) r x d ck (ix3 a s z)
      = Ideal.ofBits .f32 0x3F000000#32 * ∑ y : Fin 448, ck (ix2 ⟨a.val * 8 + s.val, by omega⟩ y) * midF (F := Ideal) x d (ix3 ⟨y.val / 8, by omega⟩ ⟨8 * r.val + y.val % 8, by omega⟩ z) := by
  fin_cases r
  · exact (same36 _ a s z).trans (quarter0 (midF (F := Ideal) x d) ck a s z)
  · exact (same36 _ a s z).trans (quarter1 (midF (F := Ideal) x d) ck a s z)
  · exact (same36 _ a s z).trans (quarter2 (midF (F := Ideal) x d) ck a s z)
  · exact (same36 _ a s z).trans (quarter3 (midF (F := Ideal) x d) ck a s z)

/-- A sum over 56 groups of 8 in which only one member of each group counts. -/
theorem sum_diag (s : Fin 8) (f : Fin 56 → Fin 8 → EReal) :
    (∑ y : Fin 448, if s.val = y.val % 8 then f ⟨y.val / 8, by omega⟩ ⟨y.val % 8, by omega⟩ else 0) = ∑ p : Fin 56, f p s := by
  rw [← (finProdFinEquiv (m := 56) (n := 8)).sum_comp (fun y : Fin (56 * 8) => if s.val = y.val % 8 then f ⟨y.val / 8, by omega⟩ ⟨y.val % 8, by omega⟩ else 0), Fintype.sum_prod_type]
  refine Finset.sum_congr rfl fun p _ => ?_
  rw [Finset.sum_eq_single s]
  · have e : (finProdFinEquiv (m := 56) (n := 8) (p, s)).val = s.val + 8 * p.val := rfl
    rw [if_pos (by rw [e]; omega)]
    congr 1
    · exact Fin.ext (by show (finProdFinEquiv (m := 56) (n := 8) (p, s)).val / 8 = p.val; rw [e]; omega)
    · exact Fin.ext (by show (finProdFinEquiv (m := 56) (n := 8) (p, s)).val % 8 = s.val; rw [e]; omega)
  · intro b _ hb
    have e : (finProdFinEquiv (m := 56) (n := 8) (p, b)).val = b.val + 8 * p.val := rfl
    refine if_neg fun hh => hb (Fin.ext ?_)
    rw [e] at hh; omega
  · intro hh; exact absurd (Finset.mem_univ _) hh

/-- The rank-one term of token `n` at row `a` of `C` and row `z` of `D`, halved. -/
def lowRank (x : Fin 256 → Fin 7168 → EReal) (C : Fin 36 → Fin 56 → EReal) (d : Fin 512 → Fin 128 → EReal) (a : Fin 36) (n : Fin 256) (z : Fin 512) : EReal :=
  Ideal.ofBits .f32 0x3F000000#32 * ∑ p : Fin 56, C a p * ∑ q : Fin 128, x n ⟨128 * p.val + q.val, by omega⟩ * d z q

theorem uF_at (x : Vec Ideal S256x7168 .bf16) (d : Vec Ideal S512x128 .bf16) (C : Vec Ideal S36x56 .bf16) (a : Fin 36) (n : Fin 256) (z : Fin 512) :
    uF (F := Ideal) x d (ckF (F := Ideal) C) (ix3 a n z) = lowRank (fun n k => x (ix2 n k)) (fun a p => C (ix2 a p)) (fun z q => d (ix2 z q)) a n z := by
  show uPay (F := Ideal) (row4 n) (xgF (F := Ideal) x (row8 n)) d (ckF (F := Ideal) C) (ix3 a (rowS n) z) = _
  rw [uPay_at]
  unfold lowRank
  refine congrArg (Ideal.ofBits .f32 0x3F000000#32 * ·) ?_
  have hrow : ∀ (s : Fin 8), 8 * (row4 n).val + s.val < 32 := fun s => by have := (row4 n).isLt; omega
  refine Eq.trans ?_ ((sum_diag (rowS n) fun p s => C (ix2 a p) * midF (F := Ideal) (xgF (F := Ideal) x (row8 n)) d (ix3 p ⟨8 * (row4 n).val + s.val, hrow s⟩ z)).trans ?_)
  · refine Finset.sum_congr rfl fun y _ => ?_
    rw [ckF_at]
    have e1 : (a.val * 8 + (rowS n).val) % 8 = (rowS n).val := by have := (rowS n).isLt; omega
    have e2 : (⟨(a.val * 8 + (rowS n).val) / 8, by have := (rowS n).isLt; omega⟩ : Fin 36) = a := Fin.ext (by have := (rowS n).isLt; show (a.val * 8 + (rowS n).val) / 8 = a.val; omega)
    by_cases hh : (rowS n).val = y.val % 8
    · rw [if_pos (e1.trans hh), if_pos hh, e2]
    · rw [if_neg (fun h => hh (e1.symm.trans h)), if_neg hh, zero_mul]
  · refine Finset.sum_congr rfl fun p _ => congrArg (C (ix2 a p) * ·) ?_
    rw [midF_at]
    refine Finset.sum_congr rfl fun q _ => ?_
    have e3 : (⟨32 * (row8 n).val + (8 * (row4 n).val + (rowS n).val), by have := (row8 n).isLt; have := hrow (rowS n); omega⟩ : Fin 256) = n :=
      Fin.ext (by show 32 * (n.val / 32) + (8 * (n.val % 32 / 8) + n.val % 8) = n.val; omega)
    exact congrArg (fun i => x (ix2 i ⟨128 * p.val + q.val, by omega⟩) * d (ix2 z q)) e3

/-! ## The three results -/

theorem codesF_at (x : Vec Ideal S256x7168 .bf16) (n : Fin 256) (k : Fin 7168) :
    codesF (F := Ideal) x (ix2 n k) = min (Ideal.ofBits FTy.f32 1138753536#32) (max (Ideal.ofBits FTy.f32 3286237184#32)
      (x (ix2 n k) * powWord (IntOp.addi (IntOp.subi 0#32 (expW (rowVal fun k => x (ix2 n k)))) 127#32))) := by
  have e : ∀ k, xgF (F := Ideal) x (row8 n) (ix2 (row32 n) k) = x (ix2 n k) := fun k =>
    congrArg (fun i => x (ix2 i k)) (Fin.ext (by show 32 * (n.val / 32) + n.val % 32 = n.val; omega))
  show k0_pay5 (F := Ideal) (k0_pay2 (F := Ideal) (xgF (F := Ideal) x (row8 n))) (k0_pay4 (F := Ideal) (xgF (F := Ideal) x (row8 n))) 0#32 (ix2 (row32 n) k) = _
  rw [pay5_at]
  rw [pay2_at, pay4_at]
  simp only [e]
theorem xsbF_at (x : Vec Ideal S256x7168 .bf16) (n : Fin 256) (k : Fin 128) :
    xsbF (F := Ideal) x (ix2 n k) = powWord (IntOp.addi (expW (rowVal fun k => x (ix2 n k))) 127#32) := by
  have e : ∀ k, xgF (F := Ideal) x (row8 n) (ix2 (row32 n) k) = x (ix2 n k) := fun k =>
    congrArg (fun i => x (ix2 i k)) (Fin.ext (by show 32 * (n.val / 32) + n.val % 32 = n.val; omega))
  show k0_pay3 (F := Ideal) (xgF (F := Ideal) x (row8 n)) (ix2 (row32 n) k) = _
  rw [pay3_at]
  rw [pay2_at]
  simp only [e]
theorem xsF_at (x : Vec Ideal S256x7168 .bf16) (r : Fin 1) (n : Fin 256) :
    xsF (F := Ideal) x (ix2 r n) = powWord (IntOp.addi (expW (rowVal fun k => x (ix2 n k))) 127#32) := by
  unfold xsF
  rw [pay53_at, xsbF_at]

theorem pay54_at (co : Vec Ideal S256x7168 .fp8e4m3) (w : Vec Ideal S1x512x7168 .fp8e4m3) (s : Vec Ideal S256x1 .f32) (ws : Vec Ideal S1x1x512 .f32) (u : Vec Ideal S1x256x512 .f32) (r : Fin 256) (z : Fin 512) :
    k0_pay54 (F := Ideal) co w s ws u (ix2 r z) = (∑ k : Fin 7168, co (ix2 r k) * w (ix3 0 z k)) * s (ix2 r 0) * ws (ix3 0 0 z) + u (ix3 0 r z) := by
  unfold k0_pay54
  pointwise

theorem yF_at (x : Vec Ideal S256x7168 .bf16) (w : Vec Ideal S18432x7168 .fp8e4m3) (ws : Vec Ideal S1x1x512 .f32) (C : Vec Ideal S36x56 .bf16) (d : Vec Ideal S512x128 .bf16)
    (b : Fin 36) (n : Fin 256) (z : Fin 512) :
    yF (F := Ideal) x w ws C d b (ix2 n z)
      = (∑ k : Fin 7168, codesF (F := Ideal) x (ix2 n k) * w (ix2 ⟨512 * b.val + z.val, by omega⟩ k)) * xsbF (F := Ideal) x (ix2 n 0) * ws (ix3 0 0 z)
        + lowRank (fun n k => x (ix2 n k)) (fun a p => C (ix2 a p)) (fun z q => d (ix2 z q)) b n z := by
  unfold yF
  rw [pay54_at, ← uF_at]
  rfl

end Cert.Proof.KernelIdeal

end
-- ==== Proof.Results.lean ====
/-
  The three results as plain functions of the arguments: the codes and the scale of every token, and the product with
  its rank-structured correction. Both programs are shown to end at these.
-/
module

public import proofs.«01_k».proof.Proof.PowerOfTwo

@[expose] public section

noncomputable section

namespace Cert.Proof

open Idealize.ShloMosaic

/-- The scale of token `n`: the power of two above its largest size over 448. -/
def scaleR (X : Fin 256 → Fin 7168 → EReal) (n : Fin 256) : EReal := Ideal.exp2 (expR (rowVal (X n)))
/-- The code of token `n` at `k`: its quotient by the scale, clipped to -448 … 448. -/
def codesR (X : Fin 256 → Fin 7168 → EReal) (n : Fin 256) (k : Fin 7168) : EReal :=
  min (Ideal.ofBits FTy.f32 0x43E00000#32) (max (Ideal.ofBits FTy.f32 0xC3E00000#32) (X n k * Ideal.exp2 (0 - expR (rowVal (X n)))))
/-- The correction of token `n` at row `a` of `C` and row `z` of `D`. -/
def lowR (X : Fin 256 → Fin 7168 → EReal) (C : Fin 36 → Fin 56 → EReal) (D : Fin 512 → Fin 128 → EReal) (n : Fin 256) (a : Fin 36) (z : Fin 512) : EReal :=
  ∑ p : Fin 56, (∑ q : Fin 128, X n ⟨128 * p.val + q.val, by omega⟩ * D z q) * C a p
/-- The result of token `n` at column `j`. -/
def yR (X : Fin 256 → Fin 7168 → EReal) (W : Fin 18432 → Fin 7168 → EReal) (ws : Fin 18432 → EReal) (C : Fin 36 → Fin 56 → EReal) (D : Fin 512 → Fin 128 → EReal)
    (n : Fin 256) (j : Fin 18432) : EReal :=
  (∑ k : Fin 7168, codesR X n k * W j k) * scaleR X n * ws j
    + Ideal.ofBits .f32 0x3F000000#32 * lowR X C D n ⟨j.val / 512, by omega⟩ ⟨j.val % 512, by omega⟩

end Cert.Proof

end
-- ==== Proof.KernelIdealResult.lean ====
/-
  What the kernel's three result arrays hold after the run, in terms of the arguments: the codes, the scales and the
  product with its correction, for tokens of size at most 2^128.
-/
module

public import proofs.«01_k».proof.Proof.KernelIdealFinish
public import proofs.«01_k».proof.Proof.KernelIdealValue
public import proofs.«01_k».proof.Proof.Results
public import Idealize.ShloMosaic.Lib.Claim
public import Idealize.ShloMosaic.Lib.Pipeline.ValueKit.Geometry

@[expose] public section

noncomputable section

namespace Cert.Proof.KernelIdeal

open Cert.KernelIdeal Cert.KernelIdeal.Gen
open Idealize.ShloMosaic Idealize.SL.Sem
open Idealize.ShloMosaic.TcCoe Idealize.ShloMosaic.Tactic

set_option maxRecDepth 16384

variable (m : (ℓ : Loc nD τ sig) → Buf (Elt Ideal) ℓ)

/-! ## The arguments as launched -/

def Xa (c : Dev nD) : S1x256x7168.Idx → EReal := m ((c.tc : Thread nD τ).loc main_arg0)
def Wa (c : Dev nD) : S18432x7168.Idx → EReal := m ((c.tc : Thread nD τ).loc main_arg1)
def Wsa (c : Dev nD) : S18432.Idx → EReal := m ((c.tc : Thread nD τ).loc main_arg2)
def Ca (c : Dev nD) : S36x56.Idx → EReal := m ((c.tc : Thread nD τ).loc main_arg3)
def Da (c : Dev nD) : S512x128.Idx → EReal := m ((c.tc : Thread nD τ).loc main_arg4)

/-! ## What each window reads of them -/

/-- The tokens without their batch axis. -/
theorem reshape0_at (x : FVec Ideal S1x256x7168 .bf16) (n : Fin 256) (k : Fin 7168) :
    shapeCast S256x7168 x shapeCasts_S1x256x7168_S256x7168 (ix2 n k) = x (ix3 0 n k) := by
  pointwise
/-- The weight scales in 36 blocks of 512. -/
theorem reshape1_at (x : FVec Ideal S18432 .f32) (b : Fin 36) (z : Fin 512) :
    shapeCast S36x1x512 x shapeCasts_S18432_S36x1x512 (ix3 b 0 z) = x (ix1 ⟨512 * b.val + z.val, by omega⟩) := by
  pointwise
  exact congrArg (fun i => x (ix1 i)) (Fin.ext (by show b.val * 512 + z.val = 512 * b.val + z.val; omega))

/-- What the host hands over as tokens. -/
theorem V_v0 (c : Dev nD) : V m c main_v0 = shapeCast S256x7168 (Xa m c) shapeCasts_S1x256x7168_S256x7168 := by
  unfold_abbrev_sides
  after_results
  rfl
/-- What the host hands over as weight scales. -/
theorem V_v1 (c : Dev nD) : V m c main_v1 = shapeCast S36x1x512 (Wsa m c) shapeCasts_S18432_S36x1x512 := by
  unfold_abbrev_sides
  after_results
  rfl

/-- Which block each window is at, point by point. -/
theorem index1 : ∀ t : Fin cfg0.N, win0_1.index t = ![(grid0.coords t 0).val, 0, 0] := (by decide +kernel : ∀ t : Fin grid0.N, win0_1.index t = ![(grid0.coords t 0).val, 0, 0])
theorem index4 : ∀ t : Fin cfg0.N, win0_4.index t = ![0, (grid0.coords t 0).val] := (by decide +kernel : ∀ t : Fin grid0.N, win0_4.index t = ![0, (grid0.coords t 0).val])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index0 : win0_0.index t0 = ![0, 0] := by decide +kernel
theorem index2 : win0_2.index t0 = ![0, 0] := by decide +kernel
theorem index3 : win0_3.index t0 = ![0, 0] := by decide +kernel

/-- The tokens the body reads. -/
theorem Xv_at (c : Dev nD) (n : Fin 256) (k : Fin 7168) : Xv m c (ix2 n k) = Xa m c (ix3 0 n k) := by
  unfold Xv
  blk_simp [iblk]
  rw [show (win0_0.blk t0).view.emb (ix2 n k) = ix2 n k from by blk_ext [index0], V_v0, reshape0_at]
/-- The block of weight scales at a point. -/
theorem Sv_at (c : Dev nD) (t : Fin cfg0.N) (z : Fin 512) :
    Sv m c t (ix3 0 0 z) = Wsa m c (ix1 ⟨512 * (grid0.coords t 0).val + z.val, by have : (grid0.coords t 0).val < 36 := (grid0.coords t 0).isLt; omega⟩) := by
  unfold Sv
  blk_simp [iblk]
  rw [show (win0_1.blk t).view.emb (ix3 0 0 z) = ix3 (⟨(grid0.coords t 0).val, (grid0.coords t 0).isLt⟩ : Fin 36) 0 z from by blk_ext [index1], V_v1, reshape1_at]
/-- The first factor the body reads. -/
theorem Cv_at (c : Dev nD) (a : Fin 36) (p : Fin 56) : Cv m c (ix2 a p) = Ca m c (ix2 a p) := by
  unfold Cv
  blk_simp [iblk]
  rw [show (win0_2.blk t0).view.emb (ix2 a p) = ix2 a p from by blk_ext [index2], V_main_arg3]
  rfl
/-- The second factor the body reads. -/
theorem Dv_at (c : Dev nD) (z : Fin 512) (q : Fin 128) : Dv m c (ix2 z q) = Da m c (ix2 z q) := by
  unfold Dv
  blk_simp [iblk]
  rw [show (win0_3.blk t0).view.emb (ix2 z q) = ix2 z q from by blk_ext [index3], V_main_arg4]
  rfl
/-- The weight the body copies from. -/
theorem Wv_at (c : Dev nD) (j : Fin 18432) (k : Fin 7168) : Wv m c (ix2 j k) = Wa m c (ix2 j k) := by
  unfold Wv XW
  exact congrFun (V_main_arg1 m c) _

/-! ## The three arrays -/

/-- The tokens by token and column. -/
def Xf (c : Dev nD) (n : Fin 256) (k : Fin 7168) : EReal := Xa m c (ix3 0 n k)
/-- Every token element is at most 2^128 in size. -/
def Bounded (c : Dev nD) : Prop := ∀ n k, max (Xf m c n k) (-(Xf m c n k)) ≤ (((2 : ℝ) ^ (128 : ℤ) : ℝ) : EReal)

/-- The product with its correction. -/
def G4 (c : Dev nD) : S256x18432.Idx → EReal := fun i =>
  yR (Xf m c) (fun j k => Wa m c (ix2 j k)) (fun j => Wsa m c (ix1 j)) (fun a p => Ca m c (ix2 a p)) (fun z q => Da m c (ix2 z q)) (i 0) (i 1)
/-- The codes. -/
def G5 (c : Dev nD) : S256x7168.Idx → EReal := fun i => codesR (Xf m c) (i 0) (i 1)
/-- The scales. -/
def G6 (c : Dev nD) : S1x256.Idx → EReal := fun i => scaleR (Xf m c) (i 1)

/-- A row of the tokens read is a row of the argument. -/
theorem row_eq (c : Dev nD) (n : Fin 256) : (fun k => Xv m c (ix2 n k)) = Xf m c n := funext fun k => Xv_at m c n k

/-- The codes stored. -/
theorem COv_at (c : Dev nD) (hb : Bounded m c) (n : Fin 256) (k : Fin 7168) : COv m c (ix2 n k) = codesR (Xf m c) n k := by
  unfold COv
  obtain ⟨h0, h1⟩ := rowVal_range (Xf m c n) (hb n)
  rw [codesF_at, row_eq, inv_scale_eq _ h0 h1, Xv_at]
  rfl
/-- The scales kept for the product. -/
theorem XBv_at (c : Dev nD) (hb : Bounded m c) (n : Fin 256) (k : Fin 128) : XBv m c (ix2 n k) = scaleR (Xf m c) n := by
  unfold XBv
  obtain ⟨h0, h1⟩ := rowVal_range (Xf m c n) (hb n)
  rw [xsbF_at, row_eq, scale_eq _ h0 h1]
  rfl
/-- The scales stored. -/
theorem XSv_at (c : Dev nD) (hb : Bounded m c) (r : Fin 1) (n : Fin 256) : XSv m c (ix2 r n) = scaleR (Xf m c) n := by
  unfold XSv
  obtain ⟨h0, h1⟩ := rowVal_range (Xf m c n) (hb n)
  rw [xsF_at, row_eq, scale_eq _ h0 h1]
  rfl
/-- Half the correction, its products in the other order. -/
theorem lowRank_eq (X : Fin 256 → Fin 7168 → EReal) (C : Fin 36 → Fin 56 → EReal) (D : Fin 512 → Fin 128 → EReal) (a : Fin 36) (n : Fin 256) (z : Fin 512) :
    lowRank X C D a n z = Ideal.ofBits .f32 0x3F000000#32 * lowR X C D n a z := by
  unfold lowRank lowR
  exact congrArg (Ideal.ofBits .f32 0x3F000000#32 * ·) (Finset.sum_congr rfl fun p _ => mul_comm _ _)
/-- One block of the product, for a scale block whose entries are the scales of the block's own columns. -/
theorem yF_G4 (c : Dev nD) (hb : Bounded m c) (b : Fin 36) (ws : FVec Ideal S1x1x512 .f32)
    (hs : ∀ z : Fin 512, ws (ix3 0 0 z) = Wsa m c (ix1 ⟨512 * b.val + z.val, by omega⟩)) (n : Fin 256) (z : Fin 512) :
    yF (Xv m c) (Wv m c) ws (Cv m c) (Dv m c) b (ix2 n z) = G4 m c (ix2 n ⟨512 * b.val + z.val, by omega⟩) := by
  have hy := yF_at (Xv m c) (Wv m c) ws (Cv m c) (Dv m c) b n z
  refine hy.trans ?_
  rw [lowRank_eq, show codesF (F := Ideal) (Xv m c) = COv m c from rfl, show xsbF (F := Ideal) (Xv m c) = XBv m c from rfl, XBv_at m c hb, hs]
  have eX : (fun n k => Xv m c (ix2 n k)) = Xf m c := funext fun n => row_eq m c n
  have eC : (fun a p => Cv m c (ix2 a p)) = fun a p => Ca m c (ix2 a p) := funext fun a => funext fun p => Cv_at m c a p
  have eD : (fun z q => Dv m c (ix2 z q)) = fun z q => Da m c (ix2 z q) := funext fun z => funext fun q => Dv_at m c z q
  rw [eX, eC, eD]
  simp only [COv_at m c hb, Wv_at]
  have e1 : (⟨(512 * b.val + z.val) / 512, by omega⟩ : Fin 36) = b := Fin.ext (by show (512 * b.val + z.val) / 512 = _; omega)
  have e2 : (⟨(512 * b.val + z.val) % 512, by omega⟩ : Fin 512) = z := Fin.ext (by show (512 * b.val + z.val) % 512 = _; omega)
  unfold G4 yR
  refine congrArg₂ (· + ·) rfl (congrArg (Ideal.ofBits .f32 0x3F000000#32 * ·) ?_)
  exact congrArg₂ (lowR (Xf m c) (fun a p => Ca m c (ix2 a p)) (fun z q => Da m c (ix2 z q)) n) e1.symm e2.symm
/-- The block of the product stored at a point. -/
theorem Yv_at (c : Dev nD) (hb : Bounded m c) (t : Fin cfg0.N) (n : Fin 256) (z : Fin 512) :
    Yv m c t (ix2 n z) = G4 m c (ix2 n ⟨512 * (grid0.coords t 0).val + z.val, by have : (grid0.coords t 0).val < 36 := (grid0.coords t 0).isLt; omega⟩) :=
  yF_G4 m c hb (grid0.coords t 0) (Sv m c t) (Sv_at m c t) n z

/-- The first result array. -/
theorem final4 (c : Dev nD) (hb : Bounded m c) : finalA m c 4 = G4 m c := by
  refine (dats m 0 c).arrAt_eq_of_covers 4 (G4 m c) (by decide +kernel) fun t hf y => ?_
  blk_simp
  rw [after_w4]
  obtain ⟨n, z, rfl⟩ : ∃ (n : Fin 256) (z : Fin 512), y = ix2 n z := ⟨y 0, y 1, eq_ix2 y⟩
  rw [Yv_at m c hb]
  refine congrArg (G4 m c) ?_
  blk_ext [index4]
/-- The second result array. -/
theorem final5 (c : Dev nD) (hb : Bounded m c) : finalA m c 5 = G5 m c := by
  refine (dats m 0 c).arrAt_eq_of_covers 5 (G5 m c) (by decide +kernel) fun t hf y => ?_
  blk_simp
  rw [after_w5]
  obtain ⟨n, z, rfl⟩ : ∃ (n : Fin 256) (z : Fin 7168), y = ix2 n z := ⟨y 0, y 1, eq_ix2 y⟩
  rw [show (win0_5.blk t).view.emb (ix2 n z) = ix2 n z from by blk_ext [index5]]
  exact COv_at m c hb n z
/-- The third result array. -/
theorem final6 (c : Dev nD) (hb : Bounded m c) : finalA m c 6 = G6 m c := by
  refine (dats m 0 c).arrAt_eq_of_covers 6 (G6 m c) (by decide +kernel) fun t hf y => ?_
  blk_simp
  rw [after_w6]
  obtain ⟨n, z, rfl⟩ : ∃ (n : Fin 1) (z : Fin 256), y = ix2 n z := ⟨y 0, y 1, eq_ix2 y⟩
  rw [show (win0_6.blk t).view.emb (ix2 n z) = ix2 n z from by blk_ext [index6]]
  exact XSv_at m c hb n z

/-- The kernel, given bounded tokens, runs to the end with its three results at those functions and its arguments kept. -/
theorem run_results (ρ : Dev nD → PrngReg) (hb : ∀ c, Bounded m c) : θ_run defs (onTc (τ := τ) (main (F := Ideal))) ⟨m, fun _ => 0, ρ⟩ (fun r => ∀ c : Dev nD,
      (r.2.mem ((c.tc : Thread nD τ).loc main_v2_0) = G4 m c
      ∧ r.2.mem ((c.tc : Thread nD τ).loc main_v2_1) = G5 m c
      ∧ r.2.mem ((c.tc : Thread nD τ).loc main_v2_2) = G6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨((h.1.1 c).1 4).trans (final4 m c (hb c)), ((h.1.1 c).1 5).trans (final5 m c (hb c)), ((h.1.1 c).1 6).trans (final6 m c (hb c))⟩, h.2.1 c⟩)
    (θ_run_and (run_main m ρ) (run_kept m ρ))

end Cert.Proof.KernelIdeal

end
-- ==== Proof.ReferenceIdealValue.lean ====
/-
  The reference's payloads read at one index, over the extended reals: the exponent, the scale and the codes of a row,
  and the product with its correction.
-/
module

public import proofs.«01_k».proof.Proof.Gen.ReferenceIdeal.Skeleton
public import proofs.«01_k».proof.Proof.PowerOfTwo
public import Idealize.ShloMosaic.Lib.Pointwise

@[expose] public section

noncomputable section

namespace Cert.Proof.ReferenceIdeal

open Cert.ReferenceIdeal Cert.ReferenceIdeal.Gen
open Idealize.ShloMosaic

set_option maxRecDepth 16384

attribute [local irreducible] k0_pay4

/-- A power of two of a vector, at an index. -/
theorem exp2_at (e : FVec Ideal S256x1 .f32) (i : S256x1.Idx) : exp2 e i = Ideal.exp2 (e i) := rfl
/-- The scale is two to the exponent. -/
theorem pay6_at (x : Vec Ideal S256x7168 .bf16) (i : S256x1.Idx) :
    k0_pay6 (F := Ideal) x i = Ideal.exp2 (k0_pay4 (F := Ideal) x i) := exp2_at _ _
/-- The scales' column laid out as a row. -/
theorem pay2_at (x : FVec Ideal S256x1 .f32) (r : Fin 1) (z : Fin 256) :
    k0_pay2 (F := Ideal) x (ix2 r z) = x (ix2 z 0) := by
  unfold k0_pay2
  pointwise
/-- The tokens widened: the same numbers. -/
theorem pay3_at (x : Vec Ideal S256x7168 .bf16) (r : Fin 256) (z : Fin 7168) :
    k0_pay3 (F := Ideal) x (ix2 r z) = x (ix2 r z) := by
  unfold k0_pay3
  pointwise
/-- Dividing by the scale and clipping, for any row exponents. -/
theorem quant_at (y : FVec Ideal S256x7168 .f32) (e : FVec Ideal S256x1 .f32) (r : Fin 256) (z : Fin 7168) :
    (truncf .fp8e4m3 (minimumf (broadcast S256x7168 (Scalar.ofBits (F := Ideal) .f32 0x43E00000#32)) (maximumf (broadcast S256x7168 (Scalar.ofBits (F := Ideal) .f32 0xC3E00000#32))
      (mulf y (broadcastTo S256x7168 (exp2 (subf (broadcast S256x1 (Scalar.ofBits (F := Ideal) .f32 0x00000000#32)) e)) broadcasts_S256x1_S256x7168)))) bitsLt_fp8e4m3_f32 : FVec Ideal S256x7168 .fp8e4m3) (ix2 r z)
      = min (Ideal.ofBits FTy.f32 1138753536#32) (max (Ideal.ofBits FTy.f32 3286237184#32) (y (ix2 r z) * Ideal.exp2 (0 - e (ix2 r 0)))) := by
  pointwise
  rfl
/-- The codes. -/
theorem pay5_at (x : Vec Ideal S256x7168 .bf16) (r : Fin 256) (z : Fin 7168) :
    k0_pay5 (F := Ideal) x (ix2 r z) = min (Ideal.ofBits FTy.f32 1138753536#32)
      (max (Ideal.ofBits FTy.f32 3286237184#32) (k0_pay3 (F := Ideal) x (ix2 r z) * Ideal.exp2 (0 - k0_pay4 (F := Ideal) x (ix2 r 0)))) :=
  quant_at (k0_pay3 x) (k0_pay4 x) r z
/-- The largest absolute value of a row. -/
theorem rowMax_at (y : FVec Ideal S256x7168 .f32) (r : Fin 256) :
    multiReduction .maximumf [1] S256 (absf y) 0xFF800000#32 reduces_S256x7168_S256 (.inl rfl) rfl (ix1 r) = rowMax fun k => y (ix2 r k) := by
  unfold rowMax
  rw [← bot_f32]
  pointwise
  rfl
/-- The exponent of a row with largest absolute value `m`. -/
theorem exponent_at (m : FVec Ideal S256 .f32) (r : Fin 256) (z : Fin 1) :
    select (cmpf .olt (mulf (shapeCast S256x1 m shapeCasts_S256_S256x1) (broadcast S256x1 (Scalar.ofBits (F := Ideal) .f32 0x3B124925#32))) (broadcast S256x1 (Scalar.ofBits (F := Ideal) .f32 0x00800000#32)))
      (broadcast S256x1 (Scalar.ofBits (F := Ideal) .f32 0x00000000#32))
      (addf (floor (divf (log (mulf (shapeCast S256x1 m shapeCasts_S256_S256x1) (broadcast S256x1 (Scalar.ofBits (F := Ideal) .f32 0x3B124925#32)))) (broadcast S256x1 (Named.named (F := Ideal) κ "ln2" 0x3F317218#32))))
        (broadcast S256x1 (Scalar.ofBits (F := Ideal) .f32 0x3F800000#32))) (ix2 r z)
      = expR (m (ix1 r) * Ideal.ofBits .f32 0x3B124925#32) := by
  unfold expR
  rw [← least_normal]
  pointwise
  rfl
attribute [local semireducible] k0_pay4 in
/-- The exponent of a row of tokens. -/
theorem pay4_at (x : Vec Ideal S256x7168 .bf16) (r : Fin 256) (z : Fin 1) :
    k0_pay4 (F := Ideal) x (ix2 r z) = expR (rowVal fun k => k0_pay3 (F := Ideal) x (ix2 r k)) := by
  refine (exponent_at (multiReduction .maximumf [1] S256 (absf (k0_pay3 x)) 0xFF800000#32 reduces_S256x7168_S256 (.inl rfl) rfl) r z).trans ?_
  unfold rowVal
  rw [rowMax_at]

/-- The result: the product of the codes, scaled, and half the correction. -/
theorem pay1_at (x : Vec Ideal S256x7168 .bf16) (w : Vec Ideal S18432x7168 .fp8e4m3) (ws : Vec Ideal S1x18432 .f32) (u : Vec Ideal S256x18432 .f32) (r : Fin 256) (z : Fin 18432) :
    k0_pay1 (F := Ideal) (k0_pay7 (F := Ideal) x w ws) (k0_pay8 (F := Ideal) u) (ix2 r z) = (∑ x_1 : Fin 7168, k0_pay5 (F := Ideal) x (ix2 r x_1) * w (ix2 z x_1)) * k0_pay6 (F := Ideal) x (ix2 r 0) * ws (ix2 0 z) +
      Ideal.ofBits FTy.f32 1056964608#32 * u (ix2 r z) := by
  unfold k0_pay1 k0_pay7 k0_pay8
  pointwise
end Cert.Proof.ReferenceIdeal
end
-- ==== Proof.ReferenceIdealResult.lean ====
/-
  What the reference's three result arrays hold after the run, in terms of the arguments: the same functions as the
  kernel's, without any bound on the tokens.
-/
module

public import proofs.«01_k».proof.Proof.Gen.ReferenceIdeal.Frame
public import proofs.«01_k».proof.Proof.ReferenceIdealValue
public import proofs.«01_k».proof.Proof.Results
public import Idealize.ShloMosaic.Lib.Claim
public import Idealize.ShloMosaic.Lib.Pipeline.ValueKit.Geometry
public import Idealize.ShloMosaic.Lib.Pipeline.ValueKit.Acc

@[expose] public section

noncomputable section

namespace Cert.Proof.ReferenceIdeal

open Cert.ReferenceIdeal Cert.ReferenceIdeal.Gen
open Idealize.ShloMosaic Idealize.SL.Sem
open Idealize.ShloMosaic.TcCoe Idealize.ShloMosaic.Tactic

set_option maxRecDepth 16384

variable (m : (ℓ : Loc nD τ sig) → Buf (Elt Ideal) ℓ) (ρ : Dev nD → PrngReg)

/-! ## The arguments as launched -/

def Xa (c : Dev nD) : S1x256x7168.Idx → EReal := m ((c.tc : Thread nD τ).loc main_arg0)
def Wa (c : Dev nD) : S18432x7168.Idx → EReal := m ((c.tc : Thread nD τ).loc main_arg1)
def Wsa (c : Dev nD) : S18432.Idx → EReal := m ((c.tc : Thread nD τ).loc main_arg2)
def Ca (c : Dev nD) : S36x56.Idx → EReal := m ((c.tc : Thread nD τ).loc main_arg3)
def Da (c : Dev nD) : S512x128.Idx → EReal := m ((c.tc : Thread nD τ).loc main_arg4)

/-! ## The host's operations at an index -/

/-- The tokens without their batch axis. -/
theorem rows_at (x : FVec Ideal S1x256x7168 .bf16) (n : Fin 256) (k : Fin 7168) :
    shapeCast S256x7168 x shapeCasts_S1x256x7168_S256x7168 (ix2 n k) = x (ix3 0 n k) := by
  pointwise
/-- The weight scales as a row. -/
theorem scales_at (x : FVec Ideal S18432 .f32) (j : Fin 18432) :
    shapeCast S1x18432 x shapeCasts_S18432_S1x18432 (ix2 0 j) = x (ix1 j) := by
  pointwise

/-- The correction before its factor: the two contractions, the last two axes exchanged, in rows. -/
def lowH (x : FVec Ideal S1x256x7168 .bf16) (C : FVec Ideal S36x56 .bf16) (D : FVec Ideal S512x128 .bf16) : FVec Ideal S256x18432 .f32 :=
  shapeCast S256x18432
    (transpose S1x256x36x512 [0, 1, 3, 2]
      (Host.dotGeneral dot_S1x256x56x512_S36x56_S1x256x512x36_2_1_013_0_n_n none
        (truncf .bf16 (Host.dotGeneral dot_S1x256x56x128_S512x128_S1x256x56x512_3_1_012_0_n_n none
          (shapeCast S1x256x56x128 x shapeCasts_S1x256x7168_S1x256x56x128) D : FVec Ideal S1x256x56x512 .f32) bitsLt_bf16_f32 : FVec Ideal S1x256x56x512 .bf16) C : FVec Ideal S1x256x512x36 .f32)
      transposes_S1x256x512x36_S1x256x36x512_0_1_3_2)
    shapeCasts_S1x256x36x512_S256x18432
/-- The correction at an index, as sums. -/
theorem lowH_at (x : FVec Ideal S1x256x7168 .bf16) (C : FVec Ideal S36x56 .bf16) (D : FVec Ideal S512x128 .bf16) (n : Fin 256) (j : Fin 18432) :
    lowH x C D (ix2 n j) = lowR (fun n k => x (ix3 0 n k)) (fun a p => C (ix2 a p)) (fun z q => D (ix2 z q)) n ⟨j.val / 512, by omega⟩ ⟨j.val % 512, by omega⟩ := by
  unfold lowH lowR
  pointwise
  simp only [Nat.mul_comm 128]

/-- What the host hands over as tokens. -/
theorem V_v5 (c : Dev nD) : V m c main_v5 = shapeCast S256x7168 (Xa m c) shapeCasts_S1x256x7168_S256x7168 := by
  unfold_abbrev_sides
  after_results
  rfl
/-- What the host hands over as weight scales. -/
theorem V_v6 (c : Dev nD) : V m c main_v6 = shapeCast S1x18432 (Wsa m c) shapeCasts_S18432_S1x18432 := by
  unfold_abbrev_sides
  after_results
  rfl
/-- What the host hands over as correction. -/
theorem V_v7 (c : Dev nD) : V m c main_v7 = lowH (Xa m c) (Ca m c) (Da m c) := by
  unfold_abbrev_sides
  after_results
  rfl

/-! ## The three arrays -/

/-- The tokens by token and column. -/
def Xf (c : Dev nD) (n : Fin 256) (k : Fin 7168) : EReal := Xa m c (ix3 0 n k)
/-- The product with its correction. -/
def G4 (c : Dev nD) : S256x18432.Idx → EReal := fun i =>
  yR (Xf m c) (fun j k => Wa m c (ix2 j k)) (fun j => Wsa m c (ix1 j)) (fun a p => Ca m c (ix2 a p)) (fun z q => Da m c (ix2 z q)) (i 0) (i 1)
/-- The codes. -/
def G5 (c : Dev nD) : S256x7168.Idx → EReal := fun i => codesR (Xf m c) (i 0) (i 1)
/-- The scales. -/
def G6 (c : Dev nD) : S1x256.Idx → EReal := fun i => scaleR (Xf m c) (i 1)

/-- Every window is its whole array. -/
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])

/-- The four input blocks, each the whole of its array. -/
def x0 (c : Dev nD) (t : Fin cfg0.N) : Vec Ideal S256x7168 .bf16 := iblk m c 0 t
def x1 (c : Dev nD) (t : Fin cfg0.N) : Vec Ideal S18432x7168 .fp8e4m3 := iblk m c 1 t
def x2 (c : Dev nD) (t : Fin cfg0.N) : Vec Ideal S1x18432 .f32 := iblk m c 2 t
def x3 (c : Dev nD) (t : Fin cfg0.N) : Vec Ideal S256x18432 .f32 := iblk m c 3 t
/-- The tokens read. -/
theorem x0_at (c : Dev nD) (t : Fin cfg0.N) (n : Fin 256) (k : Fin 7168) : x0 m c t (ix2 n k) = Xf m c n k := by
  unfold x0
  blk_simp [iblk]
  rw [show (win0_0.blk t).view.emb (ix2 n k) = ix2 n k from by blk_ext [index0], V_v5, rows_at]
  rfl
/-- The weight read. -/
theorem x1_at (c : Dev nD) (t : Fin cfg0.N) (j : Fin 18432) (k : Fin 7168) : x1 m c t (ix2 j k) = Wa m c (ix2 j k) := by
  unfold x1
  blk_simp [iblk]
  rw [show (win0_1.blk t).view.emb (ix2 j k) = ix2 j k from by blk_ext [index1], V_main_arg1]
  rfl
/-- The weight scales read. -/
theorem x2_at (c : Dev nD) (t : Fin cfg0.N) (j : Fin 18432) : x2 m c t (ix2 0 j) = Wsa m c (ix1 j) := by
  unfold x2
  blk_simp [iblk]
  rw [show (win0_2.blk t).view.emb (ix2 0 j) = ix2 0 j from by blk_ext [index2], V_v6, scales_at]
/-- The correction read. -/
theorem x3_at (c : Dev nD) (t : Fin cfg0.N) (n : Fin 256) (j : Fin 18432) : x3 m c t (ix2 n j)
    = lowR (Xf m c) (fun a p => Ca m c (ix2 a p)) (fun z q => Da m c (ix2 z q)) n ⟨j.val / 512, by omega⟩ ⟨j.val % 512, by omega⟩ := by
  unfold x3
  blk_simp [iblk]
  rw [show (win0_3.blk t).view.emb (ix2 n j) = ix2 n j from by blk_ext [index3], V_v7, lowH_at]
  rfl

/-- The exponent of a token. -/
theorem exponent_of (c : Dev nD) (t : Fin cfg0.N) (n : Fin 256) (z : Fin 1) : k0_pay4 (F := Ideal) (x0 m c t) (ix2 n z) = expR (rowVal (Xf m c n)) := by
  rw [pay4_at]
  refine congrArg (fun f => expR (rowVal f)) (funext fun k => ?_)
  rw [pay3_at, x0_at]
/-- The scale of a token. -/
theorem scale_of (c : Dev nD) (t : Fin cfg0.N) (n : Fin 256) (z : Fin 1) : k0_pay6 (F := Ideal) (x0 m c t) (ix2 n z) = scaleR (Xf m c) n := by
  rw [pay6_at, exponent_of]
  rfl
/-- The codes of a token. -/
theorem codes_of (c : Dev nD) (t : Fin cfg0.N) (n : Fin 256) (k : Fin 7168) : k0_pay5 (F := Ideal) (x0 m c t) (ix2 n k) = codesR (Xf m c) n k := by
  rw [pay5_at, exponent_of, pay3_at, x0_at]
  rfl
/-- The row of scales. -/
theorem scales_of (c : Dev nD) (t : Fin cfg0.N) (r : Fin 1) (n : Fin 256) : k0_pay2 (F := Ideal) (k0_pay6 (F := Ideal) (x0 m c t)) (ix2 r n) = scaleR (Xf m c) n := by
  rw [pay2_at, scale_of]
/-- The product with its correction. -/
theorem product_of (c : Dev nD) (t : Fin cfg0.N) (n : Fin 256) (j : Fin 18432) :
    k0_pay1 (F := Ideal) (k0_pay7 (F := Ideal) (x0 m c t) (x1 m c t) (x2 m c t)) (k0_pay8 (F := Ideal) (x3 m c t)) (ix2 n j) = G4 m c (ix2 n j) := by
  rw [pay1_at, scale_of, x2_at, x3_at]
  simp only [codes_of, x1_at]
  rfl

/-- The result arrays after the run. -/
def finalA (c : Dev nD) (w : Fin cfg0.W) := (dats (F := Ideal) m 0 c).arrAt w cfg0.N
/-- The first result array. -/
theorem final4 (c : Dev nD) : finalA m c 4 = G4 m c := by
  refine (dats m 0 c).arrAt_eq_of_covers 4 (G4 m c) (by decide +kernel) fun t hf y => ?_
  blk_simp
  rw [after0_4]
  frame_out
  obtain ⟨n, z, rfl⟩ : ∃ (n : Fin 256) (z : Fin 18432), y = ix2 n z := ⟨y 0, y 1, eq_ix2 y⟩
  rw [show (win0_4.blk t).view.emb (ix2 n z) = ix2 n z from by blk_ext [index4]]
  exact product_of m c t n z
/-- The second result array. -/
theorem final5 (c : Dev nD) : finalA m c 5 = G5 m c := by
  refine (dats m 0 c).arrAt_eq_of_covers 5 (G5 m c) (by decide +kernel) fun t hf y => ?_
  blk_simp
  rw [after0_5]
  frame_out
  obtain ⟨n, z, rfl⟩ : ∃ (n : Fin 256) (z : Fin 7168), y = ix2 n z := ⟨y 0, y 1, eq_ix2 y⟩
  rw [show (win0_5.blk t).view.emb (ix2 n z) = ix2 n z from by blk_ext [index5]]
  exact codes_of m c t n z
/-- The third result array. -/
theorem final6 (c : Dev nD) : finalA m c 6 = G6 m c := by
  refine (dats m 0 c).arrAt_eq_of_covers 6 (G6 m c) (by decide +kernel) fun t hf y => ?_
  blk_simp
  rw [after0_6]
  frame_out
  obtain ⟨n, z, rfl⟩ : ∃ (n : Fin 1) (z : Fin 256), y = ix2 n z := ⟨y 0, y 1, eq_ix2 y⟩
  rw [show (win0_6.blk t).view.emb (ix2 n z) = ix2 n z from by blk_ext [index6]]
  exact scales_of m c t n z

/-- The reference runs to the end with its three results at those functions and its arguments kept. -/
theorem run_results : θ_run defs (onTc (τ := τ) (main (F := Ideal))) ⟨m, fun _ => 0, ρ⟩ (fun r => ∀ c : Dev nD,
      (r.2.mem ((c.tc : Thread nD τ).loc main_v8_0) = G4 m c
      ∧ r.2.mem ((c.tc : Thread nD τ).loc main_v8_1) = G5 m c
      ∧ r.2.mem ((c.tc : Thread nD τ).loc main_v8_2) = G6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨((h.1 c).1 4).trans (final4 m c), ((h.1 c).1 5).trans (final5 m c), ((h.1 c).1 6).trans (final6 m c)⟩, h.2 c⟩)
    (θ_run_and (run_main m ρ) (unchanged m ρ))

end Cert.Proof.ReferenceIdeal

end
-- ==== Proof.Finite.lean ====
/-
  What the precondition says: every element of the tokens is at most the largest finite bf16 in size, and so below 2^128.
-/
module

public import proofs.«01_k».proof.Proof.Gen.Pre_finite
public import proofs.«01_k».proof.Proof.PowerOfTwo
public import Idealize.ShloMosaic.Lib.ReduceAll
public import Idealize.ShloMosaic.Lib.Pointwise

@[expose] public section

noncomputable section

namespace Cert.Proof

open Cert.Pre_finite Cert.Pre_finite.Gen
open Idealize.ShloMosaic

instance : Subsingleton S_.Idx := ⟨fun a b => funext fun i => i.elim0⟩

/-- The largest finite bf16 is below 2^128. -/
theorem largest_bf16 : Ideal.ofBits .bf16 0x7F7F#16 ≤ (((2 : ℝ) ^ (128 : ℤ) : ℝ) : EReal) := by
  unfold Ideal.ofBits Ideal.ieee; dsimp only
  rw [if_neg (by decide), if_neg (by decide)]
  refine EReal.coe_le_coe_iff.2 ?_
  rw [show (BitVec.extractLsb' 7 8 (0x7F7F#16)).toNat = 254 from by decide, show (BitVec.extractLsb' 0 7 (0x7F7F#16)).toNat = 127 from by decide,
    show (BitVec.extractLsb' (8 + 7) 1 (0x7F7F#16) == 1#1) = false from by decide]
  norm_num

/-- Tokens the precondition admits are at most 2^128 in size. -/
theorem le_of_finite (a0 : FVec Ideal S1x256x7168 .bf16) (a1 : FVec Ideal S18432x7168 .fp8e4m3) (a2 : FVec Ideal S18432 .f32) (a3 : FVec Ideal S36x56 .bf16) (a4 : FVec Ideal S512x128 .bf16)
    (h : Cert.Pre_finite.fn a0 a1 a2 a3 a4 = fun _ => 1#1) (i : S1x256x7168.Idx) :
    max (a0 i) (-(a0 i)) ≤ (((2 : ℝ) ^ (128 : ℤ) : ℝ) : EReal) := by
  have e := Host.reduce_andi_all _ _ _ _ ix0 (congrFun h ix0) i
  refine le_trans ?_ largest_bf16
  by_contra hn
  have e' : BitVec.ofBool (decide (max (a0 i) (-(a0 i)) ≤ Ideal.ofBits .bf16 0x7F7F#16)) = 1#1 := e
  rw [decide_eq_false hn] at e'
  exact absurd e' (by decide)

end Cert.Proof

end
-- ==== Proof.Algebraic.lean ====
/-
  The two programs' results are equal: at arguments that agree, the kernel's three arrays and the reference's are the
  same three functions of the arguments.
-/
module

public import proofs.«01_k».proof.Defs
public import proofs.«01_k».proof.Proof.KernelIdealResult
public import proofs.«01_k».proof.Proof.ReferenceIdealResult
public import proofs.«01_k».proof.Proof.Finite

@[expose] public section

noncomputable section

namespace Cert.Proof

open Idealize.ShloMosaic Idealize.SL.Sem

/-- Tokens the precondition admits are bounded. -/
theorem bounded_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : KernelIdeal.Bounded m c :=
  fun n k => le_of_finite _ _ _ _ _ (h c) (ix3 0 n k)

/-- From memories that agree on the arguments, tokens finite, kernel and reference end with equal results and their arguments kept. -/
theorem results_equal : Cert.algebraic_KernelIdeal_ReferenceIdeal_pre_finite := by
  intro m g m' g' hpre harg
  refine ⟨fun c => KernelIdeal.G4 m c, fun c => KernelIdeal.G5 m c, fun c => KernelIdeal.G6 m c, ?_, ?_⟩
  · exact (θ_run _ _ _).mono (fun _ h c => ⟨(h c).1.1, (h c).1.2.1, (h c).1.2.2, (h c).2⟩) (KernelIdeal.run_results m g (bounded_of_pre m hpre))
  · refine (θ_run _ _ _).mono (fun _ h c => ?_) (ReferenceIdeal.run_results m' g')
    obtain ⟨h0, h1, h2, h3, h4⟩ := harg c
    have eX : ReferenceIdeal.Xa m' c = KernelIdeal.Xa m c := h0
    have eW : ReferenceIdeal.Wa m' c = KernelIdeal.Wa m c := h1
    have es : ReferenceIdeal.Wsa m' c = KernelIdeal.Wsa m c := h2
    have eC : ReferenceIdeal.Ca m' c = KernelIdeal.Ca m c := h3
    have eD : ReferenceIdeal.Da m' c = KernelIdeal.Da m c := h4
    have ef : ReferenceIdeal.Xf m' c = KernelIdeal.Xf m c := by unfold ReferenceIdeal.Xf KernelIdeal.Xf; rw [eX]
    have e4 : ReferenceIdeal.G4 m' c = KernelIdeal.G4 m c := by unfold ReferenceIdeal.G4 KernelIdeal.G4; rw [ef, eW, es, eC, eD]
    have e5 : ReferenceIdeal.G5 m' c = KernelIdeal.G5 m c := by unfold ReferenceIdeal.G5 KernelIdeal.G5; rw [ef]
    have e6 : ReferenceIdeal.G6 m' c = KernelIdeal.G6 m c := by unfold ReferenceIdeal.G6 KernelIdeal.G6; rw [ef]
    exact ⟨(h c).1.1.trans e4, (h c).1.2.1.trans e5, (h c).1.2.2.trans e6, (h c).2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.KernelFinish
public import proofs.«01_k».proof.Proof.KernelIdealFinish
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m g _ => Cert.Proof.Kernel.run_kept (F := Bits) m g,
  fun m g _ => Cert.Proof.KernelIdeal.run_kept (F := Ideal) m g,
  fun m g _ => Cert.Proof.KernelIdeal.run_kept (F := Ideal) m g,
  fun m g _ => Cert.ReferenceIdeal.Gen.frame m g,
  fun m g _ => Cert.ReferenceIdeal.Gen.frame m g,
  trivial,
  Cert.Proof.results_equal⟩

end Cert.Proof

end
